-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_softmax_defined [hPre_softmax_defined : Cert.Pre_softmax_defined.Facts] (m : (ℓ : Loc Cert.KernelIdeal.nD Cert.KernelIdeal.τ Cert.KernelIdeal.sig) → Buf (Elt Ideal) ℓ) : Prop :=
  ∀ c : Dev Cert.KernelIdeal.nD,
    (Cert.Pre_softmax_defined.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_softmax_defined [hPre_softmax_defined : Cert.Pre_softmax_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_softmax_defined.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_softmax_defined [hKernelIdeal : Cert.KernelIdeal.Facts] [hPre_softmax_defined : Cert.Pre_softmax_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_softmax_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_softmax_defined [hReferenceIdeal : Cert.ReferenceIdeal.Facts] [hPre_softmax_defined : Cert.Pre_softmax_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_softmax_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_softmax_defined [hKernelIdeal : Cert.KernelIdeal.Facts] [hReferenceIdeal : Cert.ReferenceIdeal.Facts] [hPre_softmax_defined : Cert.Pre_softmax_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_softmax_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_softmax_defined : Cert.Pre_softmax_defined.Facts),
    quiescent_Kernel (hKernel := hKernel)
    ∧ quiescent_KernelIdeal (hKernelIdeal := hKernelIdeal)
    ∧ quiescent_KernelIdeal_pre_softmax_defined (hKernelIdeal := hKernelIdeal) (hPre_softmax_defined := hPre_softmax_defined)
    ∧ quiescent_ReferenceIdeal (hReferenceIdeal := hReferenceIdeal)
    ∧ quiescent_ReferenceIdeal_pre_softmax_defined (hReferenceIdeal := hReferenceIdeal) (hPre_softmax_defined := hPre_softmax_defined)
    ∧ preserves_Kernel_KernelIdeal
    ∧ algebraic_KernelIdeal_ReferenceIdeal_pre_softmax_defined (hKernelIdeal := hKernelIdeal) (hReferenceIdeal := hReferenceIdeal) (hPre_softmax_defined := hPre_softmax_defined)
-- ==== Pre_softmax_defined.lean ====
abbrev S64x100000 : Shape := ⟨2, ![64, 100000]⟩
abbrev S_ : Shape := ⟨0, ![]⟩
abbrev S64 : Shape := ⟨1, ![64]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel
  reducesTo_S64x100000_S64_d1 : S64x100000.ReducesTo [1] S64
  reducesTo_S64_S_d0 : S64.ReducesTo [0] S_

variable [Facts]

def fn {F : FTy → Type} [FloatOps F] (main_arg0 : FVec F S64x100000 .f32) : IVec S_ 1 :=
  let main_cst : FVec F S_ .f32 := constant S_ .f32 0x7F800000#32
  let main_v0 : FVec F S64x100000 .f32 := broadcastInDim S64x100000 ![] bcast_S_S64x100000 main_cst
  let main_v1 : IVec S64x100000 1 := cmpf .olt main_arg0 main_v0
  let main_c : IVec S_ 1 := constantI S_ 1 1#1
  let main_v2 : IVec S_ 1 := (fun x v => Host.reduce IntOp.andi x v reducesTo_S64x100000_S_d0_1 h_S_) main_v1 main_c
  let main_cst_0 : FVec F S_ .f32 := constant S_ .f32 0xFF800000#32
  let main_v3 : FVec F S64x100000 .f32 := broadcastInDim S64x100000 ![] bcast_S_S64x100000 main_cst_0
  let main_v4 : IVec S64x100000 1 := cmpf .ogt main_arg0 main_v3
  let main_c_1 : IVec S_ 1 := constantI S_ 1 0#1
  let main_v5 : IVec S64 1 := (fun x v => Host.reduce IntOp.ori x v reducesTo_S64x100000_S64_d1 h_S_) main_v4 main_c_1
  let main_c_2 : IVec S_ 1 := constantI S_ 1 1#1
  let main_v6 : IVec S_ 1 := (fun x v => Host.reduce IntOp.andi x v reducesTo_S64_S_d0 h_S_) main_v5 main_c_2
  let main_v7 : IVec S_ 1 := andi main_v2 main_v6
  main_v7
-- ==== Kernel.lean ====
abbrev S64x100000 : Shape := ⟨2, ![64, 100000]⟩
abbrev S_ : Shape := ⟨0, ![]⟩
abbrev S6400000 : Shape := ⟨1, ![6400000]⟩
abbrev S64x1 : Shape := ⟨2, ![64, 1]⟩
abbrev S64x32768 : Shape := ⟨2, ![64, 32768]⟩
abbrev S64 : Shape := ⟨1, ![64]⟩

abbrev nBuf : Space → Nat
  | .hbm => 245
  | .vmem => 10
  | .smem => 0
  | _ => 0

abbrev hbmTy0_0 (i : Nat) : BufTy := match i % 128 with
  | 0 => ⟨S64x100000, .f32⟩
  | 1 => ⟨S_, .i32⟩
  | 2 => ⟨S6400000, .i32⟩
  | 3 => ⟨S6400000, .i32⟩
  | 4 => ⟨S_, .i32⟩
  | 5 => ⟨S6400000, .i32⟩
  | 6 => ⟨S6400000, .i32⟩
  | 7 => ⟨S_, .i32⟩
  | 8 => ⟨S6400000, .i32⟩
  | 9 => ⟨S6400000, .i32⟩
  | 10 => ⟨S6400000, .i32⟩
  | 11 => ⟨S_, .i32⟩
  | 12 => ⟨S6400000, .i32⟩
  | 13 => ⟨S6400000, .i32⟩
  | 14 => ⟨S_, .i32⟩
  | 15 => ⟨S6400000, .i32⟩
  | 16 => ⟨S6400000, .i32⟩
  | 17 => ⟨S6400000, .i32⟩
  | 18 => ⟨S6400000, .i32⟩
  | 19 => ⟨S6400000, .i32⟩
  | 20 => ⟨S_, .i32⟩
  | 21 => ⟨S6400000, .i32⟩
  | 22 => ⟨S6400000, .i32⟩
  | 23 => ⟨S_, .i32⟩
  | 24 => ⟨S6400000, .i32⟩
  | 25 => ⟨S6400000, .i32⟩
  | 26 => ⟨S6400000, .i32⟩
  | 27 => ⟨S6400000, .i32⟩
  | 28 => ⟨S6400000, .i32⟩
  | 29 => ⟨S_, .i32⟩
  | 30 => ⟨S6400000, .i32⟩
  | 31 => ⟨S6400000, .i32⟩
  | 32 => ⟨S_, .i32⟩
  | 33 => ⟨S6400000, .i32⟩
  | 34 => ⟨S6400000, .i32⟩
  | 35 => ⟨S6400000, .i32⟩
  | 36 => ⟨S6400000, .i32⟩
  | 37 => ⟨S6400000, .i32⟩
  | 38 => ⟨S_, .i32⟩
  | 39 => ⟨S6400000, .i32⟩
  | 40 => ⟨S6400000, .i32⟩
  | 41 => ⟨S_, .i32⟩
  | 42 => ⟨S6400000, .i32⟩
  | 43 => ⟨S6400000, .i32⟩
  | 44 => ⟨S6400000, .i32⟩
  | 45 => ⟨S6400000, .i32⟩
  | 46 => ⟨S_, .i32⟩
  | 47 => ⟨S6400000, .i32⟩
  | 48 => ⟨S6400000, .i32⟩
  | 49 => ⟨S_, .i32⟩
  | 50 => ⟨S6400000, .i32⟩
  | 51 => ⟨S6400000, .i32⟩
  | 52 => ⟨S6400000, .i32⟩
  | 53 => ⟨S_, .i32⟩
  | 54 => ⟨S6400000, .i32⟩
  | 55 => ⟨S6400000, .i32⟩
  | 56 => ⟨S_, .i32⟩
  | 57 => ⟨S6400000, .i32⟩
  | 58 => ⟨S6400000, .i32⟩
  | 59 => ⟨S6400000, .i32⟩
  | 60 => ⟨S6400000, .i32⟩
  | 61 => ⟨S6400000, .i32⟩
  | 62 => ⟨S_, .i32⟩
  | 63 => ⟨S6400000, .i32⟩
  | 64 => ⟨S6400000, .i32⟩
  | 65 => ⟨S_, .i32⟩
  | 66 => ⟨S6400000, .i32⟩
  | 67 => ⟨S6400000, .i32⟩
  | 68 => ⟨S6400000, .i32⟩
  | 69 => ⟨S6400000, .i32⟩
  | 70 => ⟨S6400000, .i32⟩
  | 71 => ⟨S_, .i32⟩
  | 72 => ⟨S6400000, .i32⟩
  | 73 => ⟨S6400000, .i32⟩
  | 74 => ⟨S_, .i32⟩
  | 75 => ⟨S6400000, .i32⟩
  | 76 => ⟨S6400000, .i32⟩
  | 77 => ⟨S6400000, .i32⟩
  | 78 => ⟨S6400000, .i32⟩
  | 79 => ⟨S6400000, .i32⟩
  | 80 => ⟨S_, .i32⟩
  | 81 => ⟨S6400000, .i32⟩
  | 82 => ⟨S6400000, .i32⟩
  | 83 => ⟨S_, .i32⟩
  | 84 => ⟨S6400000, .i32⟩
  | 85 => ⟨S6400000, .i32⟩
  | 86 => ⟨S6400000, .i32⟩
  | 87 => ⟨S6400000, .i32⟩
  | 88 => ⟨S_, .i32⟩
  | 89 => ⟨S6400000, .i32⟩
  | 90 => ⟨S6400000, .i32⟩
  | 91 => ⟨S_, .i32⟩
  | 92 => ⟨S6400000, .i32⟩
  | 93 => ⟨S6400000, .i32⟩
  | 94 => ⟨S6400000, .i32⟩
  | 95 => ⟨S_, .i32⟩
  | 96 => ⟨S6400000, .i32⟩
  | 97 => ⟨S6400000, .i32⟩
  | 98 => ⟨S_, .i32⟩
  | 99 => ⟨S6400000, .i32⟩
  | 100 => ⟨S6400000, .i32⟩
  | 101 => ⟨S6400000, .i32⟩
  | 102 => ⟨S6400000, .i32⟩
  | 103 => ⟨S6400000, .i32⟩
  | 104 => ⟨S_, .i32⟩
  | 105 => ⟨S6400000, .i32⟩
  | 106 => ⟨S6400000, .i32⟩
  | 107 => ⟨S_, .i32⟩
  | 108 => ⟨S6400000, .i32⟩
  | 109 => ⟨S6400000, .i32⟩
  | 110 => ⟨S6400000, .i32⟩
  | 111 => ⟨S6400000, .i32⟩
  | 112 => ⟨S6400000, .i32⟩
  | 113 => ⟨S_, .i32⟩
  | 114 => ⟨S6400000, .i32⟩
  | 115 => ⟨S6400000, .i32⟩
  | 116 => ⟨S_, .i32⟩
  | 117 => ⟨S6400000, .i32⟩
  | 118 => ⟨S6400000, .i32⟩
  | 119 => ⟨S6400000, .i32⟩
  | 120 => ⟨S6400000, .i32⟩
  | 121 => ⟨S6400000, .i32⟩
  | 122 => ⟨S_, .i32⟩
  | 123 => ⟨S6400000, .i32⟩
  | 124 => ⟨S6400000, .i32⟩
  | 125 => ⟨S_, .i32⟩
  | 126 => ⟨S6400000, .i32⟩
  | 127 => ⟨S6400000, .i32⟩
  | _ => ⟨S64x100000, .f32⟩

abbrev hbmTy0_1 (i : Nat) : BufTy := match i % 128 with
  | 0 => ⟨S6400000, .i32⟩
  | 1 => ⟨S6400000, .i32⟩
  | 2 => ⟨S_, .i32⟩
  | 3 => ⟨S6400000, .i32⟩
  | 4 => ⟨S6400000, .i32⟩
  | 5 => ⟨S_, .i32⟩
  | 6 => ⟨S6400000, .i32⟩
  | 7 => ⟨S6400000, .i32⟩
  | 8 => ⟨S6400000, .i32⟩
  | 9 => ⟨S_, .i32⟩
  | 10 => ⟨S6400000, .i32⟩
  | 11 => ⟨S6400000, .i32⟩
  | 12 => ⟨S_, .i32⟩
  | 13 => ⟨S6400000, .i32⟩
  | 14 => ⟨S6400000, .i32⟩
  | 15 => ⟨S6400000, .i32⟩
  | 16 => ⟨S6400000, .i32⟩
  | 17 => ⟨S6400000, .i32⟩
  | 18 => ⟨S_, .i32⟩
  | 19 => ⟨S6400000, .i32⟩
  | 20 => ⟨S6400000, .i32⟩
  | 21 => ⟨S_, .i32⟩
  | 22 => ⟨S6400000, .i32⟩
  | 23 => ⟨S6400000, .i32⟩
  | 24 => ⟨S6400000, .i32⟩
  | 25 => ⟨S6400000, .i32⟩
  | 26 => ⟨S6400000, .i32⟩
  | 27 => ⟨S_, .i32⟩
  | 28 => ⟨S6400000, .i32⟩
  | 29 => ⟨S6400000, .i32⟩
  | 30 => ⟨S_, .i32⟩
  | 31 => ⟨S6400000, .i32⟩
  | 32 => ⟨S6400000, .i32⟩
  | 33 => ⟨S6400000, .i32⟩
  | 34 => ⟨S6400000, .i32⟩
  | 35 => ⟨S6400000, .i32⟩
  | 36 => ⟨S_, .i32⟩
  | 37 => ⟨S6400000, .i32⟩
  | 38 => ⟨S6400000, .i32⟩
  | 39 => ⟨S_, .i32⟩
  | 40 => ⟨S6400000, .i32⟩
  | 41 => ⟨S6400000, .i32⟩
  | 42 => ⟨S6400000, .i32⟩
  | 43 => ⟨S6400000, .i32⟩
  | 44 => ⟨S_, .i32⟩
  | 45 => ⟨S6400000, .i32⟩
  | 46 => ⟨S6400000, .i32⟩
  | 47 => ⟨S_, .i32⟩
  | 48 => ⟨S6400000, .i32⟩
  | 49 => ⟨S6400000, .i32⟩
  | 50 => ⟨S6400000, .i32⟩
  | 51 => ⟨S_, .i32⟩
  | 52 => ⟨S6400000, .i32⟩
  | 53 => ⟨S6400000, .i32⟩
  | 54 => ⟨S_, .i32⟩
  | 55 => ⟨S6400000, .i32⟩
  | 56 => ⟨S6400000, .i32⟩
  | 57 => ⟨S6400000, .i32⟩
  | 58 => ⟨S6400000, .i32⟩
  | 59 => ⟨S6400000, .i32⟩
  | 60 => ⟨S_, .i32⟩
  | 61 => ⟨S6400000, .i32⟩
  | 62 => ⟨S6400000, .i32⟩
  | 63 => ⟨S_, .i32⟩
  | 64 => ⟨S6400000, .i32⟩
  | 65 => ⟨S6400000, .i32⟩
  | 66 => ⟨S6400000, .i32⟩
  | 67 => ⟨S6400000, .i32⟩
  | 68 => ⟨S6400000, .i32⟩
  | 69 => ⟨S_, .i32⟩
  | 70 => ⟨S6400000, .i32⟩
  | 71 => ⟨S6400000, .i32⟩
  | 72 => ⟨S_, .i32⟩
  | 73 => ⟨S6400000, .i32⟩
  | 74 => ⟨S6400000, .i32⟩
  | 75 => ⟨S6400000, .i32⟩
  | 76 => ⟨S6400000, .i32⟩
  | 77 => ⟨S6400000, .i32⟩
  | 78 => ⟨S_, .i32⟩
  | 79 => ⟨S6400000, .i32⟩
  | 80 => ⟨S6400000, .i32⟩
  | 81 => ⟨S_, .i32⟩
  | 82 => ⟨S6400000, .i32⟩
  | 83 => ⟨S6400000, .i32⟩
  | 84 => ⟨S6400000, .i32⟩
  | 85 => ⟨S6400000, .i32⟩
  | 86 => ⟨S_, .i32⟩
  | 87 => ⟨S6400000, .i32⟩
  | 88 => ⟨S6400000, .i32⟩
  | 89 => ⟨S_, .i32⟩
  | 90 => ⟨S6400000, .i32⟩
  | 91 => ⟨S6400000, .i32⟩
  | 92 => ⟨S6400000, .i32⟩
  | 93 => ⟨S_, .i32⟩
  | 94 => ⟨S6400000, .i32⟩
  | 95 => ⟨S6400000, .i32⟩
  | 96 => ⟨S_, .i32⟩
  | 97 => ⟨S6400000, .i32⟩
  | 98 => ⟨S6400000, .i32⟩
  | 99 => ⟨S6400000, .f32⟩
  | 100 => ⟨S_, .f32⟩
  | 101 => ⟨S6400000, .f32⟩
  | 102 => ⟨S6400000, .f32⟩
  | 103 => ⟨S_, .f32⟩
  | 104 => ⟨S_, .f32⟩
  | 105 => ⟨S_, .f32⟩
  | 106 => ⟨S6400000, .f32⟩
  | 107 => ⟨S6400000, .f32⟩
  | 108 => ⟨S_, .f32⟩
  | 109 => ⟨S6400000, .f32⟩
  | 110 => ⟨S6400000, .f32⟩
  | 111 => ⟨S_, .f32⟩
  | 112 => ⟨S6400000, .f32⟩
  | 113 => ⟨S6400000, .f32⟩
  | 114 => ⟨S64x100000, .f32⟩
  | 115 => ⟨S64x1, .i32⟩
  | 116 => ⟨S64x100000, .f32⟩
  | _ => ⟨S64x100000, .f32⟩

abbrev hbmTy (i : Nat) : BufTy := match i / 128 with
  | 0 => hbmTy0_0 i
  | 1 => hbmTy0_1 i
  | _ => ⟨S64x100000, .f32⟩

abbrev bufTy : (tb : Table) → Fin (tcTables nBuf tb) → BufTy
  | .hbm, ⟨i, _⟩ => hbmTy i
  | .local _ .vmem, ⟨0, _⟩ => ⟨S64x32768, .f32⟩
  | .local _ .vmem, ⟨1, _⟩ => ⟨S64x32768, .f32⟩
  | .local _ .vmem, ⟨2, _⟩ => ⟨S64x32768, .f32⟩
  | .local _ .vmem, ⟨3, _⟩ => ⟨S64x32768, .f32⟩
  | .local _ .vmem, ⟨4, _⟩ => ⟨S64x1, .i32⟩
  | .local _ .vmem, ⟨5, _⟩ => ⟨S64x1, .f32⟩
  | .local _ .vmem, ⟨6, _⟩ => ⟨S64x1, .i32⟩
  | .local _ .vmem, ⟨7, _⟩ => ⟨S64x1, .i32⟩
  | .local _ .vmem, ⟨8, _⟩ => ⟨S64x32768, .f32⟩
  | .local _ .vmem, ⟨9, _⟩ => ⟨S64x32768, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_c_5 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_6 : Ref sig .tc := ⟨.hbm, 29, rfl⟩
abbrev main_v21 : Ref sig .tc := ⟨.hbm, 30, rfl⟩
abbrev main_v22 : Ref sig .tc := ⟨.hbm, 31, rfl⟩
abbrev main_c_7 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_8 : Ref sig .tc := ⟨.hbm, 38, rfl⟩
abbrev main_v28 : Ref sig .tc := ⟨.hbm, 39, rfl⟩
abbrev main_v29 : Ref sig .tc := ⟨.hbm, 40, rfl⟩
abbrev main_c_9 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_10 : Ref sig .tc := ⟨.hbm, 46, rfl⟩
abbrev main_v34 : Ref sig .tc := ⟨.hbm, 47, rfl⟩
abbrev main_v35 : Ref sig .tc := ⟨.hbm, 48, rfl⟩
abbrev main_c_11 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_12 : Ref sig .tc := ⟨.hbm, 53, rfl⟩
abbrev main_v39 : Ref sig .tc := ⟨.hbm, 54, rfl⟩
abbrev main_v40 : Ref sig .tc := ⟨.hbm, 55, rfl⟩
abbrev main_c_13 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_14 : Ref sig .tc := ⟨.hbm, 62, rfl⟩
abbrev main_v46 : Ref sig .tc := ⟨.hbm, 63, rfl⟩
abbrev main_v47 : Ref sig .tc := ⟨.hbm, 64, rfl⟩
abbrev main_c_15 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_16 : Ref sig .tc := ⟨.hbm, 71, rfl⟩
abbrev main_v53 : Ref sig .tc := ⟨.hbm, 72, rfl⟩
abbrev main_v54 : Ref sig .tc := ⟨.hbm, 73, rfl⟩
abbrev main_c_17 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_18 : Ref sig .tc := ⟨.hbm, 80, rfl⟩
abbrev main_v60 : Ref sig .tc := ⟨.hbm, 81, rfl⟩
abbrev main_v61 : Ref sig .tc := ⟨.hbm, 82, rfl⟩
abbrev main_c_19 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_20 : Ref sig .tc := ⟨.hbm, 88, rfl⟩
abbrev main_v66 : Ref sig .tc := ⟨.hbm, 89, rfl⟩
abbrev main_v67 : Ref sig .tc := ⟨.hbm, 90, rfl⟩
abbrev main_c_21 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_22 : Ref sig .tc := ⟨.hbm, 95, rfl⟩
abbrev main_v71 : Ref sig .tc := ⟨.hbm, 96, rfl⟩
abbrev main_v72 : Ref sig .tc := ⟨.hbm, 97, rfl⟩
abbrev main_c_23 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_24 : Ref sig .tc := ⟨.hbm, 104, rfl⟩
abbrev main_v78 : Ref sig .tc := ⟨.hbm, 105, rfl⟩
abbrev main_v79 : Ref sig .tc := ⟨.hbm, 106, rfl⟩
abbrev main_c_25 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_26 : Ref sig .tc := ⟨.hbm, 113, rfl⟩
abbrev main_v85 : Ref sig .tc := ⟨.hbm, 114, rfl⟩
abbrev main_v86 : Ref sig .tc := ⟨.hbm, 115, rfl⟩
abbrev main_c_27 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_28 : Ref sig .tc := ⟨.hbm, 122, rfl⟩
abbrev main_v92 : Ref sig .tc := ⟨.hbm, 123, rfl⟩
abbrev main_v93 : Ref sig .tc := ⟨.hbm, 124, rfl⟩
abbrev main_c_29 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_30 : Ref sig .tc := ⟨.hbm, 130, rfl⟩
abbrev main_v98 : Ref sig .tc := ⟨.hbm, 131, rfl⟩
abbrev main_v99 : Ref sig .tc := ⟨.hbm, 132, rfl⟩
abbrev main_c_31 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_32 : Ref sig .tc := ⟨.hbm, 137, rfl⟩
abbrev main_v103 : Ref sig .tc := ⟨.hbm, 138, rfl⟩
abbrev main_v104 : Ref sig .tc := ⟨.hbm, 139, rfl⟩
abbrev main_c_33 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_34 : Ref sig .tc := ⟨.hbm, 146, rfl⟩
abbrev main_v110 : Ref sig .tc := ⟨.hbm, 147, rfl⟩
abbrev main_v111 : Ref sig .tc := ⟨.hbm, 148, rfl⟩
abbrev main_c_35 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_c_36 : Ref sig .tc := ⟨.hbm, 155, rfl⟩
abbrev main_v117 : Ref sig .tc := ⟨.hbm, 156, rfl⟩
abbrev main_v118 : Ref sig .tc := ⟨.hbm, 157, rfl⟩
abbrev main_c_37 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_38 : Ref sig .tc := ⟨.hbm, 164, rfl⟩
abbrev main_v124 : Ref sig .tc := ⟨.hbm, 165, rfl⟩
abbrev main_v125 : Ref sig .tc := ⟨.hbm, 166, rfl⟩
abbrev main_c_39 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_c_40 : Ref sig .tc := ⟨.hbm, 172, rfl⟩
abbrev main_v130 : Ref sig .tc := ⟨.hbm, 173, rfl⟩
abbrev main_v131 : Ref sig .tc := ⟨.hbm, 174, rfl⟩
abbrev main_c_41 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_42 : Ref sig .tc := ⟨.hbm, 179, rfl⟩
abbrev main_v135 : Ref sig .tc := ⟨.hbm, 180, rfl⟩
abbrev main_v136 : Ref sig .tc := ⟨.hbm, 181, rfl⟩
abbrev main_c_43 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_c_44 : Ref sig .tc := ⟨.hbm, 188, rfl⟩
abbrev main_v142 : Ref sig .tc := ⟨.hbm, 189, rfl⟩
abbrev main_v143 : Ref sig .tc := ⟨.hbm, 190, rfl⟩
abbrev main_c_45 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_46 : Ref sig .tc := ⟨.hbm, 197, rfl⟩
abbrev main_v149 : Ref sig .tc := ⟨.hbm, 198, rfl⟩
abbrev main_v150 : Ref sig .tc := ⟨.hbm, 199, rfl⟩
abbrev main_c_47 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_c_48 : Ref sig .tc := ⟨.hbm, 206, rfl⟩
abbrev main_v156 : Ref sig .tc := ⟨.hbm, 207, rfl⟩
abbrev main_v157 : Ref sig .tc := ⟨.hbm, 208, rfl⟩
abbrev main_c_49 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_c_50 : Ref sig .tc := ⟨.hbm, 214, rfl⟩
abbrev main_v162 : Ref sig .tc := ⟨.hbm, 215, rfl⟩
abbrev main_v163 : Ref sig .tc := ⟨.hbm, 216, rfl⟩
abbrev main_c_51 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_c_52 : Ref sig .tc := ⟨.hbm, 221, rfl⟩
abbrev main_v167 : Ref sig .tc := ⟨.hbm, 222, rfl⟩
abbrev main_v168 : Ref sig .tc := ⟨.hbm, 223, rfl⟩
abbrev main_c_53 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_cst : Ref sig .tc := ⟨.hbm, 228, rfl⟩
abbrev main_v172 : Ref sig .tc := ⟨.hbm, 229, rfl⟩
abbrev main_v173 : Ref sig .tc := ⟨.hbm, 230, rfl⟩
abbrev main_cst_54 : Ref sig .tc := ⟨.hbm, 231, rfl⟩
abbrev main_cst_55 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_56 : Ref sig .tc := ⟨.hbm, 236, rfl⟩
abbrev main_v177 : Ref sig .tc := ⟨.hbm, 237, rfl⟩
abbrev main_v178 : Ref sig .tc := ⟨.hbm, 238, rfl⟩
abbrev main_cst_57 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v34 : BitVec 1 := Scalar.cmpi .eq arg0 c3_i32
  let v35 : BitVec 32 := Scalar.extui v34
  let c0_i32_11 : BitVec 32 := 0#32
  let v36 : BitVec 1 := Scalar.cmpi .ne v35 c0_i32_11
  v36

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S64x100000 : Shape := ⟨2, ![64, 100000]⟩
abbrev S_ : Shape := ⟨0, ![]⟩
abbrev S1 : Shape := ⟨1, ![1]⟩
abbrev S2 : Shape := ⟨1, ![2]⟩
abbrev S1x1 : Shape := ⟨2, ![1, 1]⟩
abbrev S64 : Shape := ⟨1, ![64]⟩
abbrev S64x1 : Shape := ⟨2, ![64, 1]⟩
abbrev S1x100000 : Shape := ⟨2, ![1, 100000]⟩

abbrev nBuf : Space → Nat
  | .hbm => 309
  | .vmem => 0
  | .smem => 0
  | _ => 0

abbrev hbmTy0_0 (i : Nat) : BufTy := match i % 128 with
  | 0 => ⟨S64x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S64x100000, .i64⟩
  | 21 => ⟨S64x100000, .i64⟩
  | 22 => ⟨S_, .i64⟩
  | 23 => ⟨S64x100000, .i64⟩
  | 24 => ⟨S64x100000, .i64⟩
  | 25 => ⟨S_, .i64⟩
  | 26 => ⟨S64x100000, .i64⟩
  | 27 => ⟨S64x100000, .i64⟩
  | 28 => ⟨S64x100000, .i64⟩
  | 29 => ⟨S_, .i64⟩
  | 30 => ⟨S64x100000, .i64⟩
  | 31 => ⟨S64x100000, .i64⟩
  | 32 => ⟨S64x100000, .i32⟩
  | 33 => ⟨S64x100000, .i32⟩
  | 34 => ⟨S_, .i32⟩
  | 35 => ⟨S_, .i32⟩
  | 36 => ⟨S_, .i32⟩
  | 37 => ⟨S64x100000, .i32⟩
  | 38 => ⟨S64x100000, .i32⟩
  | 39 => ⟨S64x100000, .i32⟩
  | 40 => ⟨S64x100000, .i32⟩
  | 41 => ⟨S64x100000, .i32⟩
  | 42 => ⟨S_, .i32⟩
  | 43 => ⟨S64x100000, .i32⟩
  | 44 => ⟨S64x100000, .i32⟩
  | 45 => ⟨S_, .i32⟩
  | 46 => ⟨S64x100000, .i32⟩
  | 47 => ⟨S64x100000, .i32⟩
  | 48 => ⟨S64x100000, .i32⟩
  | 49 => ⟨S64x100000, .i32⟩
  | 50 => ⟨S64x100000, .i32⟩
  | 51 => ⟨S_, .i32⟩
  | 52 => ⟨S64x100000, .i32⟩
  | 53 => ⟨S64x100000, .i32⟩
  | 54 => ⟨S_, .i32⟩
  | 55 => ⟨S64x100000, .i32⟩
  | 56 => ⟨S64x100000, .i32⟩
  | 57 => ⟨S64x100000, .i32⟩
  | 58 => ⟨S64x100000, .i32⟩
  | 59 => ⟨S64x100000, .i32⟩
  | 60 => ⟨S_, .i32⟩
  | 61 => ⟨S64x100000, .i32⟩
  | 62 => ⟨S64x100000, .i32⟩
  | 63 => ⟨S_, .i32⟩
  | 64 => ⟨S64x100000, .i32⟩
  | 65 => ⟨S64x100000, .i32⟩
  | 66 => ⟨S64x100000, .i32⟩
  | 67 => ⟨S64x100000, .i32⟩
  | 68 => ⟨S64x100000, .i32⟩
  | 69 => ⟨S_, .i32⟩
  | 70 => ⟨S64x100000, .i32⟩
  | 71 => ⟨S64x100000, .i32⟩
  | 72 => ⟨S_, .i32⟩
  | 73 => ⟨S64x100000, .i32⟩
  | 74 => ⟨S64x100000, .i32⟩
  | 75 => ⟨S64x100000, .i32⟩
  | 76 => ⟨S64x100000, .i32⟩
  | 77 => ⟨S64x100000, .i32⟩
  | 78 => ⟨S64x100000, .i32⟩
  | 79 => ⟨S64x100000, .i32⟩
  | 80 => ⟨S64x100000, .i32⟩
  | 81 => ⟨S_, .i32⟩
  | 82 => ⟨S64x100000, .i32⟩
  | 83 => ⟨S64x100000, .i32⟩
  | 84 => ⟨S64x100000, .i32⟩
  | 85 => ⟨S_, .i32⟩
  | 86 => ⟨S64x100000, .i32⟩
  | 87 => ⟨S64x100000, .i32⟩
  | 88 => ⟨S_, .i32⟩
  | 89 => ⟨S64x100000, .i32⟩
  | 90 => ⟨S64x100000, .i32⟩
  | 91 => ⟨S64x100000, .i32⟩
  | 92 => ⟨S64x100000, .i32⟩
  | 93 => ⟨S64x100000, .i32⟩
  | 94 => ⟨S_, .i32⟩
  | 95 => ⟨S64x100000, .i32⟩
  | 96 => ⟨S64x100000, .i32⟩
  | 97 => ⟨S_, .i32⟩
  | 98 => ⟨S64x100000, .i32⟩
  | 99 => ⟨S64x100000, .i32⟩
  | 100 => ⟨S64x100000, .i32⟩
  | 101 => ⟨S64x100000, .i32⟩
  | 102 => ⟨S64x100000, .i32⟩
  | 103 => ⟨S_, .i32⟩
  | 104 => ⟨S64x100000, .i32⟩
  | 105 => ⟨S64x100000, .i32⟩
  | 106 => ⟨S_, .i32⟩
  | 107 => ⟨S64x100000, .i32⟩
  | 108 => ⟨S64x100000, .i32⟩
  | 109 => ⟨S64x100000, .i32⟩
  | 110 => ⟨S64x100000, .i32⟩
  | 111 => ⟨S64x100000, .i32⟩
  | 112 => ⟨S_, .i32⟩
  | 113 => ⟨S64x100000, .i32⟩
  | 114 => ⟨S64x100000, .i32⟩
  | 115 => ⟨S_, .i32⟩
  | 116 => ⟨S64x100000, .i32⟩
  | 117 => ⟨S64x100000, .i32⟩
  | 118 => ⟨S64x100000, .i32⟩
  | 119 => ⟨S64x100000, .i32⟩
  | 120 => ⟨S64x100000, .i32⟩
  | 121 => ⟨S64x100000, .i32⟩
  | 122 => ⟨S64x100000, .i32⟩
  | 123 => ⟨S64x100000, .i32⟩
  | 124 => ⟨S_, .i32⟩
  | 125 => ⟨S64x100000, .i32⟩
  | 126 => ⟨S64x100000, .i32⟩
  | 127 => ⟨S64x100000, .i32⟩
  | _ => ⟨S64x100000, .f32⟩

abbrev hbmTy0_1 (i : Nat) : BufTy := match i % 128 with
  | 0 => ⟨S_, .i32⟩
  | 1 => ⟨S64x100000, .i32⟩
  | 2 => ⟨S64x100000, .i32⟩
  | 3 => ⟨S_, .i32⟩
  | 4 => ⟨S64x100000, .i32⟩
  | 5 => ⟨S64x100000, .i32⟩
  | 6 => ⟨S64x100000, .i32⟩
  | 7 => ⟨S64x100000, .i32⟩
  | 8 => ⟨S64x100000, .i32⟩
  | 9 => ⟨S_, .i32⟩
  | 10 => ⟨S64x100000, .i32⟩
  | 11 => ⟨S64x100000, .i32⟩
  | 12 => ⟨S_, .i32⟩
  | 13 => ⟨S64x100000, .i32⟩
  | 14 => ⟨S64x100000, .i32⟩
  | 15 => ⟨S64x100000, .i32⟩
  | 16 => ⟨S64x100000, .i32⟩
  | 17 => ⟨S64x100000, .i32⟩
  | 18 => ⟨S_, .i32⟩
  | 19 => ⟨S64x100000, .i32⟩
  | 20 => ⟨S64x100000, .i32⟩
  | 21 => ⟨S_, .i32⟩
  | 22 => ⟨S64x100000, .i32⟩
  | 23 => ⟨S64x100000, .i32⟩
  | 24 => ⟨S64x100000, .i32⟩
  | 25 => ⟨S64x100000, .i32⟩
  | 26 => ⟨S64x100000, .i32⟩
  | 27 => ⟨S_, .i32⟩
  | 28 => ⟨S64x100000, .i32⟩
  | 29 => ⟨S64x100000, .i32⟩
  | 30 => ⟨S_, .i32⟩
  | 31 => ⟨S64x100000, .i32⟩
  | 32 => ⟨S64x100000, .i32⟩
  | 33 => ⟨S64x100000, .i32⟩
  | 34 => ⟨S64x100000, .i32⟩
  | 35 => ⟨S64x100000, .i32⟩
  | 36 => ⟨S64x100000, .i32⟩
  | 37 => ⟨S64x100000, .i32⟩
  | 38 => ⟨S64x100000, .i32⟩
  | 39 => ⟨S_, .i32⟩
  | 40 => ⟨S64x100000, .i32⟩
  | 41 => ⟨S64x100000, .i32⟩
  | 42 => ⟨S64x100000, .i32⟩
  | 43 => ⟨S_, .i32⟩
  | 44 => ⟨S64x100000, .i32⟩
  | 45 => ⟨S64x100000, .i32⟩
  | 46 => ⟨S_, .i32⟩
  | 47 => ⟨S64x100000, .i32⟩
  | 48 => ⟨S64x100000, .i32⟩
  | 49 => ⟨S64x100000, .i32⟩
  | 50 => ⟨S64x100000, .i32⟩
  | 51 => ⟨S64x100000, .i32⟩
  | 52 => ⟨S_, .i32⟩
  | 53 => ⟨S64x100000, .i32⟩
  | 54 => ⟨S64x100000, .i32⟩
  | 55 => ⟨S_, .i32⟩
  | 56 => ⟨S64x100000, .i32⟩
  | 57 => ⟨S64x100000, .i32⟩
  | 58 => ⟨S64x100000, .i32⟩
  | 59 => ⟨S64x100000, .i32⟩
  | 60 => ⟨S64x100000, .i32⟩
  | 61 => ⟨S_, .i32⟩
  | 62 => ⟨S64x100000, .i32⟩
  | 63 => ⟨S64x100000, .i32⟩
  | 64 => ⟨S_, .i32⟩
  | 65 => ⟨S64x100000, .i32⟩
  | 66 => ⟨S64x100000, .i32⟩
  | 67 => ⟨S64x100000, .i32⟩
  | 68 => ⟨S64x100000, .i32⟩
  | 69 => ⟨S64x100000, .i32⟩
  | 70 => ⟨S_, .i32⟩
  | 71 => ⟨S64x100000, .i32⟩
  | 72 => ⟨S64x100000, .i32⟩
  | 73 => ⟨S_, .i32⟩
  | 74 => ⟨S64x100000, .i32⟩
  | 75 => ⟨S64x100000, .i32⟩
  | 76 => ⟨S64x100000, .i32⟩
  | 77 => ⟨S64x100000, .i32⟩
  | 78 => ⟨S64x100000, .i32⟩
  | 79 => ⟨S64x100000, .i32⟩
  | 80 => ⟨S64x100000, .i32⟩
  | 81 => ⟨S64x100000, .i32⟩
  | 82 => ⟨S_, .i32⟩
  | 83 => ⟨S64x100000, .i32⟩
  | 84 => ⟨S64x100000, .i32⟩
  | 85 => ⟨S64x100000, .i32⟩
  | 86 => ⟨S_, .i32⟩
  | 87 => ⟨S64x100000, .i32⟩
  | 88 => ⟨S64x100000, .i32⟩
  | 89 => ⟨S_, .i32⟩
  | 90 => ⟨S64x100000, .i32⟩
  | 91 => ⟨S64x100000, .i32⟩
  | 92 => ⟨S64x100000, .i32⟩
  | 93 => ⟨S64x100000, .i32⟩
  | 94 => ⟨S64x100000, .i32⟩
  | 95 => ⟨S_, .i32⟩
  | 96 => ⟨S64x100000, .i32⟩
  | 97 => ⟨S64x100000, .i32⟩
  | 98 => ⟨S_, .i32⟩
  | 99 => ⟨S64x100000, .i32⟩
  | 100 => ⟨S64x100000, .i32⟩
  | 101 => ⟨S64x100000, .i32⟩
  | 102 => ⟨S64x100000, .i32⟩
  | 103 => ⟨S64x100000, .i32⟩
  | 104 => ⟨S_, .i32⟩
  | 105 => ⟨S64x100000, .i32⟩
  | 106 => ⟨S64x100000, .i32⟩
  | 107 => ⟨S_, .i32⟩
  | 108 => ⟨S64x100000, .i32⟩
  | 109 => ⟨S64x100000, .i32⟩
  | 110 => ⟨S64x100000, .i32⟩
  | 111 => ⟨S64x100000, .i32⟩
  | 112 => ⟨S64x100000, .i32⟩
  | 113 => ⟨S_, .i32⟩
  | 114 => ⟨S64x100000, .i32⟩
  | 115 => ⟨S64x100000, .i32⟩
  | 116 => ⟨S_, .i32⟩
  | 117 => ⟨S64x100000, .i32⟩
  | 118 => ⟨S64x100000, .i32⟩
  | 119 => ⟨S64x100000, .i32⟩
  | 120 => ⟨S64x100000, .i32⟩
  | 121 => ⟨S64x100000, .i32⟩
  | 122 => ⟨S64x100000, .i32⟩
  | 123 => ⟨S64x100000, .i32⟩
  | 124 => ⟨S64x100000, .i32⟩
  | 125 => ⟨S_, .i32⟩
  | 126 => ⟨S64x100000, .i32⟩
  | 127 => ⟨S64x100000, .i32⟩
  | _ => ⟨S64x100000, .f32⟩

abbrev hbmTy0_2 (i : Nat) : BufTy := match i % 128 with
  | 0 => ⟨S64x100000, .i32⟩
  | 1 => ⟨S_, .i32⟩
  | 2 => ⟨S64x100000, .i32⟩
  | 3 => ⟨S64x100000, .i32⟩
  | 4 => ⟨S_, .i32⟩
  | 5 => ⟨S64x100000, .i32⟩
  | 6 => ⟨S64x100000, .i32⟩
  | 7 => ⟨S64x100000, .f32⟩
  | 8 => ⟨S_, .f32⟩
  | 9 => ⟨S64x100000, .f32⟩
  | 10 => ⟨S64x100000, .f32⟩
  | 11 => ⟨S1x1, .f32⟩
  | 12 => ⟨S64x100000, .f32⟩
  | 13 => ⟨S64x100000, .f32⟩
  | 14 => ⟨S64x100000, .f32⟩
  | 15 => ⟨S64x100000, .f32⟩
  | 16 => ⟨S64x100000, .f32⟩
  | 17 => ⟨S64x100000, .f32⟩
  | 18 => ⟨S64x100000, .f32⟩
  | 19 => ⟨S64x100000, .f32⟩
  | 20 => ⟨S64x100000, .f32⟩
  | 21 => ⟨S64x100000, .f32⟩
  | 22 => ⟨S64x100000, .f32⟩
  | 23 => ⟨S_, .f32⟩
  | 24 => ⟨S64x100000, .f32⟩
  | 25 => ⟨S64x100000, .f32⟩
  | 26 => ⟨S_, .f32⟩
  | 27 => ⟨S64, .f32⟩
  | 28 => ⟨S_, .f32⟩
  | 29 => ⟨S64, .f32⟩
  | 30 => ⟨S64, .f32⟩
  | 31 => ⟨S64x1, .f32⟩
  | 32 => ⟨S64x100000, .f32⟩
  | 33 => ⟨S64x100000, .f32⟩
  | 34 => ⟨S64x100000, .f32⟩
  | 35 => ⟨S_, .f32⟩
  | 36 => ⟨S64, .f32⟩
  | 37 => ⟨S64x1, .f32⟩
  | 38 => ⟨S64x100000, .f32⟩
  | 39 => ⟨S64x100000, .f32⟩
  | 40 => ⟨S64x100000, .i32⟩
  | 41 => ⟨S_, .f32⟩
  | 42 => ⟨S_, .i32⟩
  | 43 => ⟨S64, .f32⟩
  | 44 => ⟨S64, .i32⟩
  | 45 => ⟨S64x1, .i32⟩
  | 46 => ⟨S1x100000, .i32⟩
  | 47 => ⟨S64x100000, .i32⟩
  | 48 => ⟨S64x100000, .i32⟩
  | 49 => ⟨S64x100000, .i1⟩
  | 50 => ⟨S64x100000, .f32⟩
  | 51 => ⟨S64x100000, .f32⟩
  | 52 => ⟨S64x100000, .f32⟩
  | _ => ⟨S64x100000, .f32⟩

abbrev hbmTy (i : Nat) : BufTy := match i / 128 with
  | 0 => hbmTy0_0 i
  | 1 => hbmTy0_1 i
  | 2 => hbmTy0_2 i
  | _ => ⟨S64x100000, .f32⟩

abbrev bufTy : (tb : Table) → Fin (tcTables nBuf tb) → BufTy
  | .hbm, ⟨i, _⟩ => hbmTy i
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_c_0 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_call0_v0 : Ref sig .tc := ⟨.hbm, 34, rfl⟩
abbrev main_call0_call0_call0_c : Ref sig .tc := ⟨.hbm, 35, rfl⟩
abbrev main_call0_call0_call0_v1 : Ref sig .tc := ⟨.hbm, 36, rfl⟩
abbrev main_call0_call0_call0_v2 : Ref sig .tc := ⟨.hbm, 37, rfl⟩
abbrev main_call0_call0_call0_v3 : Ref sig .tc := ⟨.hbm, 38, rfl⟩
abbrev main_call0_call0_call0_v4 : Ref sig .tc := ⟨.hbm, 39, rfl⟩
abbrev main_call0_call0_call0_v5 : Ref sig .tc := ⟨.hbm, 40, rfl⟩
abbrev main_call0_call0_call0_v6 : Ref sig .tc := ⟨.hbm, 41, rfl⟩
abbrev main_call0_call0_call0_c_0 : Ref sig .tc := ⟨.hbm, 42, rfl⟩
abbrev main_call0_call0_call0_v7 : Ref sig .tc := ⟨.hbm, 43, rfl⟩
abbrev main_call0_call0_call0_v8 : Ref sig .tc := ⟨.hbm, 44, rfl⟩
abbrev main_call0_call0_call0_c_1 : Ref sig .tc := ⟨.hbm, 45, rfl⟩
abbrev main_call0_call0_call0_v9 : Ref sig .tc := ⟨.hbm, 46, rfl⟩
abbrev main_call0_call0_call0_v10 : Ref sig .tc := ⟨.hbm, 47, rfl⟩
abbrev main_call0_call0_call0_v11 : Ref sig .tc := ⟨.hbm, 48, rfl⟩
abbrev main_call0_call0_call0_v12 : Ref sig .tc := ⟨.hbm, 49, rfl⟩
abbrev main_call0_call0_call0_v13 : Ref sig .tc := ⟨.hbm, 50, rfl⟩
abbrev main_call0_call0_call0_c_2 : Ref sig .tc := ⟨.hbm, 51, rfl⟩
abbrev main_call0_call0_call0_v14 : Ref sig .tc := ⟨.hbm, 52, rfl⟩
abbrev main_call0_call0_call0_v15 : Ref sig .tc := ⟨.hbm, 53, rfl⟩
abbrev main_call0_call0_call0_c_3 : Ref sig .tc := ⟨.hbm, 54, rfl⟩
abbrev main_call0_call0_call0_v16 : Ref sig .tc := ⟨.hbm, 55, rfl⟩
abbrev main_call0_call0_call0_v17 : Ref sig .tc := ⟨.hbm, 56, rfl⟩
abbrev main_call0_call0_call0_v18 : Ref sig .tc := ⟨.hbm, 57, rfl⟩
abbrev main_call0_call0_call0_v19 : Ref sig .tc := ⟨.hbm, 58, rfl⟩
abbrev main_call0_call0_call0_v20 : Ref sig .tc := ⟨.hbm, 59, rfl⟩
abbrev main_call0_call0_call0_c_4 : Ref sig .tc := ⟨.hbm, 60, rfl⟩
abbrev main_call0_call0_call0_v21 : Ref sig .tc := ⟨.hbm, 61, rfl⟩
abbrev main_call0_call0_call0_v22 : Ref sig .tc := ⟨.hbm, 62, rfl⟩
abbrev main_call0_call0_call0_c_5 : Ref sig .tc := ⟨.hbm, 63, rfl⟩
abbrev main_call0_call0_call0_v23 : Ref sig .tc := ⟨.hbm, 64, rfl⟩
abbrev main_call0_call0_call0_v24 : Ref sig .tc := ⟨.hbm, 65, rfl⟩
abbrev main_call0_call0_call0_v25 : Ref sig .tc := ⟨.hbm, 66, rfl⟩
abbrev main_call0_call0_call0_v26 : Ref sig .tc := ⟨.hbm, 67, rfl⟩
abbrev main_call0_call0_call0_v27 : Ref sig .tc := ⟨.hbm, 68, rfl⟩
abbrev main_call0_call0_call0_c_6 : Ref sig .tc := ⟨.hbm, 69, rfl⟩
abbrev main_call0_call0_call0_v28 : Ref sig .tc := ⟨.hbm, 70, rfl⟩
abbrev main_call0_call0_call0_v29 : Ref sig .tc := ⟨.hbm, 71, rfl⟩
abbrev main_call0_call0_call0_c_7 : Ref sig .tc := ⟨.hbm, 72, rfl⟩
abbrev main_call0_call0_call0_v30 : Ref sig .tc := ⟨.hbm, 73, rfl⟩
abbrev main_call0_call0_call0_v31 : Ref sig .tc := ⟨.hbm, 74, rfl⟩
abbrev main_call0_call0_call0_v32 : Ref sig .tc := ⟨.hbm, 75, rfl⟩
abbrev main_call0_call0_call0_v33 : Ref sig .tc := ⟨.hbm, 76, rfl⟩
abbrev main_call0_call0_call0_v34 : Ref sig .tc := ⟨.hbm, 77, rfl⟩
abbrev main_call0_call0_call0_v35 : Ref sig .tc := ⟨.hbm, 78, rfl⟩
abbrev main_call0_call0_call0_v36 : Ref sig .tc := ⟨.hbm, 79, rfl⟩
abbrev main_call0_call0_call0_v37 : Ref sig .tc := ⟨.hbm, 80, rfl⟩
abbrev main_call0_call0_call0_c_8 : Ref sig .tc := ⟨.hbm, 81, rfl⟩
abbrev main_call0_call0_call0_v38 : Ref sig .tc := ⟨.hbm, 82, rfl⟩
abbrev main_call0_call0_call0_v39 : Ref sig .tc := ⟨.hbm, 83, rfl⟩
abbrev main_call0_call0_call0_v40 : Ref sig .tc := ⟨.hbm, 84, rfl⟩
abbrev main_call0_call0_call0_c_9 : Ref sig .tc := ⟨.hbm, 85, rfl⟩
abbrev main_call0_call0_call0_v41 : Ref sig .tc := ⟨.hbm, 86, rfl⟩
abbrev main_call0_call0_call0_v42 : Ref sig .tc := ⟨.hbm, 87, rfl⟩
abbrev main_call0_call0_call0_c_10 : Ref sig .tc := ⟨.hbm, 88, rfl⟩
abbrev main_call0_call0_call0_v43 : Ref sig .tc := ⟨.hbm, 89, rfl⟩
abbrev main_call0_call0_call0_v44 : Ref sig .tc := ⟨.hbm, 90, rfl⟩
abbrev main_call0_call0_call0_v45 : Ref sig .tc := ⟨.hbm, 91, rfl⟩
abbrev main_call0_call0_call0_v46 : Ref sig .tc := ⟨.hbm, 92, rfl⟩
abbrev main_call0_call0_call0_v47 : Ref sig .tc := ⟨.hbm, 93, rfl⟩
abbrev main_call0_call0_call0_c_11 : Ref sig .tc := ⟨.hbm, 94, rfl⟩
abbrev main_call0_call0_call0_v48 : Ref sig .tc := ⟨.hbm, 95, rfl⟩
abbrev main_call0_call0_call0_v49 : Ref sig .tc := ⟨.hbm, 96, rfl⟩
abbrev main_call0_call0_call0_c_12 : Ref sig .tc := ⟨.hbm, 97, rfl⟩
abbrev main_call0_call0_call0_v50 : Ref sig .tc := ⟨.hbm, 98, rfl⟩
abbrev main_call0_call0_call0_v51 : Ref sig .tc := ⟨.hbm, 99, rfl⟩
abbrev main_call0_call0_call0_v52 : Ref sig .tc := ⟨.hbm, 100, rfl⟩
abbrev main_call0_call0_call0_v53 : Ref sig .tc := ⟨.hbm, 101, rfl⟩
abbrev main_call0_call0_call0_v54 : Ref sig .tc := ⟨.hbm, 102, rfl⟩
abbrev main_call0_call0_call0_c_13 : Ref sig .tc := ⟨.hbm, 103, rfl⟩
abbrev main_call0_call0_call0_v55 : Ref sig .tc := ⟨.hbm, 104, rfl⟩
abbrev main_call0_call0_call0_v56 : Ref sig .tc := ⟨.hbm, 105, rfl⟩
abbrev main_call0_call0_call0_c_14 : Ref sig .tc := ⟨.hbm, 106, rfl⟩
abbrev main_call0_call0_call0_v57 : Ref sig .tc := ⟨.hbm, 107, rfl⟩
abbrev main_call0_call0_call0_v58 : Ref sig .tc := ⟨.hbm, 108, rfl⟩
abbrev main_call0_call0_call0_v59 : Ref sig .tc := ⟨.hbm, 109, rfl⟩
abbrev main_call0_call0_call0_v60 : Ref sig .tc := ⟨.hbm, 110, rfl⟩
abbrev main_call0_call0_call0_v61 : Ref sig .tc := ⟨.hbm, 111, rfl⟩
abbrev main_call0_call0_call0_c_15 : Ref sig .tc := ⟨.hbm, 112, rfl⟩
abbrev main_call0_call0_call0_v62 : Ref sig .tc := ⟨.hbm, 113, rfl⟩
abbrev main_call0_call0_call0_v63 : Ref sig .tc := ⟨.hbm, 114, rfl⟩
abbrev main_call0_call0_call0_c_16 : Ref sig .tc := ⟨.hbm, 115, rfl⟩
abbrev main_call0_call0_call0_v64 : Ref sig .tc := ⟨.hbm, 116, rfl⟩
abbrev main_call0_call0_call0_v65 : Ref sig .tc := ⟨.hbm, 117, rfl⟩
abbrev main_call0_call0_call0_v66 : Ref sig .tc := ⟨.hbm, 118, rfl⟩
abbrev main_call0_call0_call0_v67 : Ref sig .tc := ⟨.hbm, 119, rfl⟩
abbrev main_call0_call0_call0_v68 : Ref sig .tc := ⟨.hbm, 120, rfl⟩
abbrev main_call0_call0_call0_v69 : Ref sig .tc := ⟨.hbm, 121, rfl⟩
abbrev main_call0_call0_call0_v70 : Ref sig .tc := ⟨.hbm, 122, rfl⟩
abbrev main_call0_call0_call0_v71 : Ref sig .tc := ⟨.hbm, 123, rfl⟩
abbrev main_call0_call0_call0_c_17 : Ref sig .tc := ⟨.hbm, 124, rfl⟩
abbrev main_call0_call0_call0_v72 : Ref sig .tc := ⟨.hbm, 125, rfl⟩
abbrev main_call0_call0_call0_v73 : Ref sig .tc := ⟨.hbm, 126, rfl⟩
abbrev main_call0_call0_call0_v74 : Ref sig .tc := ⟨.hbm, 127, rfl⟩
abbrev main_call0_call0_call0_c_18 : Ref sig .tc := ⟨.hbm, 128, rfl⟩
abbrev main_call0_call0_call0_v75 : Ref sig .tc := ⟨.hbm, 129, rfl⟩
abbrev main_call0_call0_call0_v76 : Ref sig .tc := ⟨.hbm, 130, rfl⟩
abbrev main_call0_call0_call0_c_19 : Ref sig .tc := ⟨.hbm, 131, rfl⟩
abbrev main_call0_call0_call0_v77 : Ref sig .tc := ⟨.hbm, 132, rfl⟩
abbrev main_call0_call0_call0_v78 : Ref sig .tc := ⟨.hbm, 133, rfl⟩
abbrev main_call0_call0_call0_v79 : Ref sig .tc := ⟨.hbm, 134, rfl⟩
abbrev main_call0_call0_call0_v80 : Ref sig .tc := ⟨.hbm, 135, rfl⟩
abbrev main_call0_call0_call0_v81 : Ref sig .tc := ⟨.hbm, 136, rfl⟩
abbrev main_call0_call0_call0_c_20 : Ref sig .tc := ⟨.hbm, 137, rfl⟩
abbrev main_call0_call0_call0_v82 : Ref sig .tc := ⟨.hbm, 138, rfl⟩
abbrev main_call0_call0_call0_v83 : Ref sig .tc := ⟨.hbm, 139, rfl⟩
abbrev main_call0_call0_call0_c_21 : Ref sig .tc := ⟨.hbm, 140, rfl⟩
abbrev main_call0_call0_call0_v84 : Ref sig .tc := ⟨.hbm, 141, rfl⟩
abbrev main_call0_call0_call0_v85 : Ref sig .tc := ⟨.hbm, 142, rfl⟩
abbrev main_call0_call0_call0_v86 : Ref sig .tc := ⟨.hbm, 143, rfl⟩
abbrev main_call0_call0_call0_v87 : Ref sig .tc := ⟨.hbm, 144, rfl⟩
abbrev main_call0_call0_call0_v88 : Ref sig .tc := ⟨.hbm, 145, rfl⟩
abbrev main_call0_call0_call0_c_22 : Ref sig .tc := ⟨.hbm, 146, rfl⟩
abbrev main_call0_call0_call0_v89 : Ref sig .tc := ⟨.hbm, 147, rfl⟩
abbrev main_call0_call0_call0_v90 : Ref sig .tc := ⟨.hbm, 148, rfl⟩
abbrev main_call0_call0_call0_c_23 : Ref sig .tc := ⟨.hbm, 149, rfl⟩
abbrev main_call0_call0_call0_v91 : Ref sig .tc := ⟨.hbm, 150, rfl⟩
abbrev main_call0_call0_call0_v92 : Ref sig .tc := ⟨.hbm, 151, rfl⟩
abbrev main_call0_call0_call0_v93 : Ref sig .tc := ⟨.hbm, 152, rfl⟩
abbrev main_call0_call0_call0_v94 : Ref sig .tc := ⟨.hbm, 153, rfl⟩
abbrev main_call0_call0_call0_v95 : Ref sig .tc := ⟨.hbm, 154, rfl⟩
abbrev main_call0_call0_call0_c_24 : Ref sig .tc := ⟨.hbm, 155, rfl⟩
abbrev main_call0_call0_call0_v96 : Ref sig .tc := ⟨.hbm, 156, rfl⟩
abbrev main_call0_call0_call0_v97 : Ref sig .tc := ⟨.hbm, 157, rfl⟩
abbrev main_call0_call0_call0_c_25 : Ref sig .tc := ⟨.hbm, 158, rfl⟩
abbrev main_call0_call0_call0_v98 : Ref sig .tc := ⟨.hbm, 159, rfl⟩
abbrev main_call0_call0_call0_v99 : Ref sig .tc := ⟨.hbm, 160, rfl⟩
abbrev main_call0_call0_call0_v100 : Ref sig .tc := ⟨.hbm, 161, rfl⟩
abbrev main_call0_call0_call0_v101 : Ref sig .tc := ⟨.hbm, 162, rfl⟩
abbrev main_call0_call0_call0_v102 : Ref sig .tc := ⟨.hbm, 163, rfl⟩
abbrev main_call0_call0_call0_v103 : Ref sig .tc := ⟨.hbm, 164, rfl⟩
abbrev main_call0_call0_call0_v104 : Ref sig .tc := ⟨.hbm, 165, rfl⟩
abbrev main_call0_call0_call0_v105 : Ref sig .tc := ⟨.hbm, 166, rfl⟩
abbrev main_call0_call0_call0_c_26 : Ref sig .tc := ⟨.hbm, 167, rfl⟩
abbrev main_call0_call0_call0_v106 : Ref sig .tc := ⟨.hbm, 168, rfl⟩
abbrev main_call0_call0_call0_v107 : Ref sig .tc := ⟨.hbm, 169, rfl⟩
abbrev main_call0_call0_call0_v108 : Ref sig .tc := ⟨.hbm, 170, rfl⟩
abbrev main_call0_call0_call0_c_27 : Ref sig .tc := ⟨.hbm, 171, rfl⟩
abbrev main_call0_call0_call0_v109 : Ref sig .tc := ⟨.hbm, 172, rfl⟩
abbrev main_call0_call0_call0_v110 : Ref sig .tc := ⟨.hbm, 173, rfl⟩
abbrev main_call0_call0_call0_c_28 : Ref sig .tc := ⟨.hbm, 174, rfl⟩
abbrev main_call0_call0_call0_v111 : Ref sig .tc := ⟨.hbm, 175, rfl⟩
abbrev main_call0_call0_call0_v112 : Ref sig .tc := ⟨.hbm, 176, rfl⟩
abbrev main_call0_call0_call0_v113 : Ref sig .tc := ⟨.hbm, 177, rfl⟩
abbrev main_call0_call0_call0_v114 : Ref sig .tc := ⟨.hbm, 178, rfl⟩
abbrev main_call0_call0_call0_v115 : Ref sig .tc := ⟨.hbm, 179, rfl⟩
abbrev main_call0_call0_call0_c_29 : Ref sig .tc := ⟨.hbm, 180, rfl⟩
abbrev main_call0_call0_call0_v116 : Ref sig .tc := ⟨.hbm, 181, rfl⟩
abbrev main_call0_call0_call0_v117 : Ref sig .tc := ⟨.hbm, 182, rfl⟩
abbrev main_call0_call0_call0_c_30 : Ref sig .tc := ⟨.hbm, 183, rfl⟩
abbrev main_call0_call0_call0_v118 : Ref sig .tc := ⟨.hbm, 184, rfl⟩
abbrev main_call0_call0_call0_v119 : Ref sig .tc := ⟨.hbm, 185, rfl⟩
abbrev main_call0_call0_call0_v120 : Ref sig .tc := ⟨.hbm, 186, rfl⟩
abbrev main_call0_call0_call0_v121 : Ref sig .tc := ⟨.hbm, 187, rfl⟩
abbrev main_call0_call0_call0_v122 : Ref sig .tc := ⟨.hbm, 188, rfl⟩
abbrev main_call0_call0_call0_c_31 : Ref sig .tc := ⟨.hbm, 189, rfl⟩
abbrev main_call0_call0_call0_v123 : Ref sig .tc := ⟨.hbm, 190, rfl⟩
abbrev main_call0_call0_call0_v124 : Ref sig .tc := ⟨.hbm, 191, rfl⟩
abbrev main_call0_call0_call0_c_32 : Ref sig .tc := ⟨.hbm, 192, rfl⟩
abbrev main_call0_call0_call0_v125 : Ref sig .tc := ⟨.hbm, 193, rfl⟩
abbrev main_call0_call0_call0_v126 : Ref sig .tc := ⟨.hbm, 194, rfl⟩
abbrev main_call0_call0_call0_v127 : Ref sig .tc := ⟨.hbm, 195, rfl⟩
abbrev main_call0_call0_call0_v128 : Ref sig .tc := ⟨.hbm, 196, rfl⟩
abbrev main_call0_call0_call0_v129 : Ref sig .tc := ⟨.hbm, 197, rfl⟩
abbrev main_call0_call0_call0_c_33 : Ref sig .tc := ⟨.hbm, 198, rfl⟩
abbrev main_call0_call0_call0_v130 : Ref sig .tc := ⟨.hbm, 199, rfl⟩
abbrev main_call0_call0_call0_v131 : Ref sig .tc := ⟨.hbm, 200, rfl⟩
abbrev main_call0_call0_call0_c_34 : Ref sig .tc := ⟨.hbm, 201, rfl⟩
abbrev main_call0_call0_call0_v132 : Ref sig .tc := ⟨.hbm, 202, rfl⟩
abbrev main_call0_call0_call0_v133 : Ref sig .tc := ⟨.hbm, 203, rfl⟩
abbrev main_call0_call0_call0_v134 : Ref sig .tc := ⟨.hbm, 204, rfl⟩
abbrev main_call0_call0_call0_v135 : Ref sig .tc := ⟨.hbm, 205, rfl⟩
abbrev main_call0_call0_call0_v136 : Ref sig .tc := ⟨.hbm, 206, rfl⟩
abbrev main_call0_call0_call0_v137 : Ref sig .tc := ⟨.hbm, 207, rfl⟩
abbrev main_call0_call0_call0_v138 : Ref sig .tc := ⟨.hbm, 208, rfl⟩
abbrev main_call0_call0_call0_v139 : Ref sig .tc := ⟨.hbm, 209, rfl⟩
abbrev main_call0_call0_call0_c_35 : Ref sig .tc := ⟨.hbm, 210, rfl⟩
abbrev main_call0_call0_call0_v140 : Ref sig .tc := ⟨.hbm, 211, rfl⟩
abbrev main_call0_call0_call0_v141 : Ref sig .tc := ⟨.hbm, 212, rfl⟩
abbrev main_call0_call0_call0_v142 : Ref sig .tc := ⟨.hbm, 213, rfl⟩
abbrev main_call0_call0_call0_c_36 : Ref sig .tc := ⟨.hbm, 214, rfl⟩
abbrev main_call0_call0_call0_v143 : Ref sig .tc := ⟨.hbm, 215, rfl⟩
abbrev main_call0_call0_call0_v144 : Ref sig .tc := ⟨.hbm, 216, rfl⟩
abbrev main_call0_call0_call0_c_37 : Ref sig .tc := ⟨.hbm, 217, rfl⟩
abbrev main_call0_call0_call0_v145 : Ref sig .tc := ⟨.hbm, 218, rfl⟩
abbrev main_call0_call0_call0_v146 : Ref sig .tc := ⟨.hbm, 219, rfl⟩
abbrev main_call0_call0_call0_v147 : Ref sig .tc := ⟨.hbm, 220, rfl⟩
abbrev main_call0_call0_call0_v148 : Ref sig .tc := ⟨.hbm, 221, rfl⟩
abbrev main_call0_call0_call0_v149 : Ref sig .tc := ⟨.hbm, 222, rfl⟩
abbrev main_call0_call0_call0_c_38 : Ref sig .tc := ⟨.hbm, 223, rfl⟩
abbrev main_call0_call0_call0_v150 : Ref sig .tc := ⟨.hbm, 224, rfl⟩
abbrev main_call0_call0_call0_v151 : Ref sig .tc := ⟨.hbm, 225, rfl⟩
abbrev main_call0_call0_call0_c_39 : Ref sig .tc := ⟨.hbm, 226, rfl⟩
abbrev main_call0_call0_call0_v152 : Ref sig .tc := ⟨.hbm, 227, rfl⟩
abbrev main_call0_call0_call0_v153 : Ref sig .tc := ⟨.hbm, 228, rfl⟩
abbrev main_call0_call0_call0_v154 : Ref sig .tc := ⟨.hbm, 229, rfl⟩
abbrev main_call0_call0_call0_v155 : Ref sig .tc := ⟨.hbm, 230, rfl⟩
abbrev main_call0_call0_call0_v156 : Ref sig .tc := ⟨.hbm, 231, rfl⟩
abbrev main_call0_call0_call0_c_40 : Ref sig .tc := ⟨.hbm, 232, rfl⟩
abbrev main_call0_call0_call0_v157 : Ref sig .tc := ⟨.hbm, 233, rfl⟩
abbrev main_call0_call0_call0_v158 : Ref sig .tc := ⟨.hbm, 234, rfl⟩
abbrev main_call0_call0_call0_c_41 : Ref sig .tc := ⟨.hbm, 235, rfl⟩
abbrev main_call0_call0_call0_v159 : Ref sig .tc := ⟨.hbm, 236, rfl⟩
abbrev main_call0_call0_call0_v160 : Ref sig .tc := ⟨.hbm, 237, rfl⟩
abbrev main_call0_call0_call0_v161 : Ref sig .tc := ⟨.hbm, 238, rfl⟩
abbrev main_call0_call0_call0_v162 : Ref sig .tc := ⟨.hbm, 239, rfl⟩
abbrev main_call0_call0_call0_v163 : Ref sig .tc := ⟨.hbm, 240, rfl⟩
abbrev main_call0_call0_call0_c_42 : Ref sig .tc := ⟨.hbm, 241, rfl⟩
abbrev main_call0_call0_call0_v164 : Ref sig .tc := ⟨.hbm, 242, rfl⟩
abbrev main_call0_call0_call0_v165 : Ref sig .tc := ⟨.hbm, 243, rfl⟩
abbrev main_call0_call0_call0_c_43 : Ref sig .tc := ⟨.hbm, 244, rfl⟩
abbrev main_call0_call0_call0_v166 : Ref sig .tc := ⟨.hbm, 245, rfl⟩
abbrev main_call0_call0_call0_v167 : Ref sig .tc := ⟨.hbm, 246, rfl⟩
abbrev main_call0_call0_call0_v168 : Ref sig .tc := ⟨.hbm, 247, rfl⟩
abbrev main_call0_call0_call0_v169 : Ref sig .tc := ⟨.hbm, 248, rfl⟩
abbrev main_call0_call0_call0_v170 : Ref sig .tc := ⟨.hbm, 249, rfl⟩
abbrev main_call0_call0_v18_0 : Ref sig .tc := ⟨.hbm, 250, rfl⟩
abbrev main_call0_call0_call0_v172 : Ref sig .tc := ⟨.hbm, 251, rfl⟩
abbrev main_call0_call0_call0_v173 : Ref sig .tc := ⟨.hbm, 252, rfl⟩
abbrev main_call0_call0_call0_c_44 : Ref sig .tc := ⟨.hbm, 253, rfl⟩
abbrev main_call0_call0_call0_v174 : Ref sig .tc := ⟨.hbm, 254, rfl⟩
abbrev main_call0_call0_v18_1 : Ref sig .tc := ⟨.hbm, 255, rfl⟩
abbrev main_call0_call0_v19 : Ref sig .tc := ⟨.hbm, 256, rfl⟩
abbrev main_call0_call0_c_2 : Ref sig .tc := ⟨.hbm, 257, rfl⟩
abbrev main_call0_call0_v20 : Ref sig .tc := ⟨.hbm, 258, rfl⟩
abbrev main_call0_call0_v21 : Ref sig .tc := ⟨.hbm, 259, rfl⟩
abbrev main_call0_call0_c_3 : Ref sig .tc := ⟨.hbm, 260, rfl⟩
abbrev main_call0_call0_v22 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_cst : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_call0_v3 : Ref sig .tc := ⟨.hbm, 276, rfl⟩
abbrev main_v7 : Ref sig .tc := ⟨.hbm, 277, rfl⟩
abbrev main_v8 : Ref sig .tc := ⟨.hbm, 278, rfl⟩
abbrev main_cst : Ref sig .tc := ⟨.hbm, 279, rfl⟩
abbrev main_v9 : Ref sig .tc := ⟨.hbm, 280, rfl⟩
abbrev main_v10 : Ref sig .tc := ⟨.hbm, 281, rfl⟩
abbrev main_cst_2 : Ref sig .tc := ⟨.hbm, 282, rfl⟩
abbrev main_v11 : Ref sig .tc := ⟨.hbm, 283, rfl⟩
abbrev main_cst_3 : Ref sig .tc := ⟨.hbm, 284, rfl⟩
abbrev main_v12 : Ref sig .tc := ⟨.hbm, 285, rfl⟩
abbrev main_v13 : Ref sig .tc := ⟨.hbm, 286, rfl⟩
abbrev main_v14 : Ref sig .tc := ⟨.hbm, 287, rfl⟩
abbrev main_v15 : Ref sig .tc := ⟨.hbm, 288, rfl⟩
abbrev main_v16 : Ref sig .tc := ⟨.hbm, 289, rfl⟩
abbrev main_v17 : Ref sig .tc := ⟨.hbm, 290, rfl⟩
abbrev main_cst_4 : Ref sig .tc := ⟨.hbm, 291, rfl⟩
abbrev main_v18 : Ref sig .tc := ⟨.hbm, 292, rfl⟩
abbrev main_v19 : Ref sig .tc := ⟨.hbm, 293, rfl⟩
abbrev main_v20 : Ref sig .tc := ⟨.hbm, 294, rfl⟩
abbrev main_v21 : Ref sig .tc := ⟨.hbm, 295, rfl⟩
abbrev main_call1_v0 : Ref sig .tc := ⟨.hbm, 296, rfl⟩
abbrev main_call1_cst : Ref sig .tc := ⟨.hbm, 297, rfl⟩
abbrev main_call1_c : Ref sig .tc := ⟨.hbm, 298, rfl⟩
abbrev main_call1_v1_0 : Ref sig .tc := ⟨.hbm, 299, rfl⟩
abbrev main_v22 : Ref sig .tc := ⟨.hbm, 300, rfl⟩
abbrev main_call2_v0 : Ref sig .tc := ⟨.hbm, 301, rfl⟩
abbrev main_call2_v1 : Ref sig .tc := ⟨.hbm, 302, rfl⟩
abbrev main_call2_v2 : Ref sig .tc := ⟨.hbm, 303, rfl⟩
abbrev main_call2_v3 : Ref sig .tc := ⟨.hbm, 304, rfl⟩
abbrev main_call2_v4 : Ref sig .tc := ⟨.hbm, 305, rfl⟩
abbrev main_v23 : Ref sig .tc := ⟨.hbm, 306, rfl⟩
abbrev main_v24 : Ref sig .tc := ⟨.hbm, 307, rfl⟩
abbrev main_v25 : Ref sig .tc := ⟨.hbm, 308, rfl⟩

abbrev nD : Nat := 1
abbrev τ : Topo := Topo.v7x

variable {F : FTy → Type} [FloatOps F]
-- ==== Proof.ScanBody.lean ====
/- What the scan kernel's body does at one grid point: its run at the first point, at a middle point and at the last
   point, over staging memrefs and the two carried scratch buffers at any contents. -/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.Kit
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

/-- The resource algebra: the pipelines' own. -/
abbrev UU : Type := UR sig nD τ

local notation "𝕄" => MT nD τ sig Unit (Elt F) ℕ UU ℕ

/-- The first branch's condition: the point is the first. -/
def cond1 (i : grid0.Coords) : BitVec 1 :=
  Scalar.cmpi .ne (Scalar.extui (Scalar.cmpi .eq (BitVec.ofNat 32 (i 0).val) 0#32) : BitVec 32) 0#32

/-- The second branch's condition: the point is not the first. -/
def cond2 (i : grid0.Coords) : BitVec 1 :=
  Scalar.cmpi .ne (Scalar.extui (Scalar.cmpi .sgt (BitVec.ofNat 32 (i 0).val) 0#32) : BitVec 32) 0#32

variable (c : Dev nD) (E : Set ℕ) (i : grid0.Coords)
  (arg1 : Memref sig .tc .vmem S64x32768 .f32) (harg1 : arg1.IsWhole) (arg2 : Memref sig .tc .vmem S64x32768 .f32) (harg2 : arg2.IsWhole)
  (arg3 : Memref sig .tc .vmem S64x1 .i32) (harg3 : arg3.IsWhole) (arg4 : Memref sig .tc .vmem S64x1 .f32) (harg4 : arg4.IsWhole)
  (arg5 : Memref sig .tc .vmem S64x1 .i32) (harg5 : arg5.IsWhole)
  (x u : Vec F S64x32768 .f32)

/-- At the first point the running maximum and its column are set from the block; the output block is left alone. -/
theorem scan_first (hc1 : cond1 i = 1#1) (hc2 : ¬cond2 i = 1#1) (hc3 : ¬k0_cond3 i = 1#1)
    (o : Vec F S64x1 .i32) (K : PUnit → sProp 𝕄) :
    iprop(owns (c : Thread nD τ) arg1 fullShare x ∗ owns (c : Thread nD τ) arg2 fullShare u ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare u ∗ owns (c : Thread nD τ) arg3 fullShare o
              ∗ owns (c : Thread nD τ) arg4 fullShare (k0_pay5 i u x) ∗ owns (c : Thread nD τ) arg5 fullShare (k0_pay6 i u x)) -∗ K ⟨⟩))
      ⊢ wp frame (wpE (defs₀ (F := F)) Variants.none c none) E (cc0__scan_body i arg1 harg1 arg2 harg2 arg3 harg3 arg4 harg4 arg5 harg5) K := by
  unfold cond1 at hc1; unfold cond2 at hc2
  simp only [cc0__scan_body_eq_skeleton]; unfold cc0__scan_body_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr; swap; · iexact H3
    ipureintro; exact hf3
  isplitl [H4]
  · iexists _; isplitr; swap; · iexact H4
    ipureintro
    rw [View.read_writes_full]; repeat rw [View.readAt_full]
  iexists _; isplitr; swap; · iexact H5
  ipureintro
  rw [View.read_writes_full]; repeat rw [View.readAt_full]

/-- At a middle point the running maximum and its column are updated from the block; the output block is left alone. -/
theorem scan_middle (hc1 : ¬cond1 i = 1#1) (hc2 : cond2 i = 1#1) (hc3 : ¬k0_cond3 i = 1#1)
    (o : Vec F S64x1 .i32) (m : Vec F S64x1 .f32) (n : Vec F S64x1 .i32) (K : PUnit → sProp 𝕄) :
    iprop(owns (c : Thread nD τ) arg1 fullShare x ∗ owns (c : Thread nD τ) arg2 fullShare u ∗ owns (c : Thread nD τ) arg3 fullShare o
        ∗ owns (c : Thread nD τ) arg4 fullShare m ∗ owns (c : Thread nD τ) arg5 fullShare n
        ∗ (iprop(owns (c : Thread nD τ) arg1 fullShare x ∗ owns (c : Thread nD τ) arg2 fullShare u ∗ owns (c : Thread nD τ) arg3 fullShare o
              ∗ owns (c : Thread nD τ) arg4 fullShare (k0_pay8 i u x m m) ∗ owns (c : Thread nD τ) arg5 fullShare (k0_pay9 i u x m n)) -∗ K ⟨⟩))
      ⊢ wp frame (wpE (defs₀ (F := F)) Variants.none c none) E (cc0__scan_body i arg1 harg1 arg2 harg2 arg3 harg3 arg4 harg4 arg5 harg5) K := by
  unfold cond1 at hc1; unfold cond2 at hc2
  simp only [cc0__scan_body_eq_skeleton]; unfold cc0__scan_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr; swap; · iexact H3
    ipureintro; exact hf3
  isplitl [H4]
  · iexists _; isplitr; swap; · iexact H4
    ipureintro
    rw [View.read_writes_full]; repeat rw [View.readAt_full]
  iexists _; isplitr; swap; · iexact H5
  ipureintro
  rw [View.read_writes_full]; repeat rw [View.readAt_full]

/-- At the last point the running maximum and its column are updated from the block, and the column is stored to the
    output block. -/
theorem scan_last (hc1 : ¬cond1 i = 1#1) (hc2 : cond2 i = 1#1) (hc3 : k0_cond3 i = 1#1)
    (m : Vec F S64x1 .f32) (n : Vec F S64x1 .i32) (K : PUnit → sProp 𝕄) :
    iprop(owns (c : Thread nD τ) arg1 fullShare x ∗ owns (c : Thread nD τ) arg2 fullShare u ∗ (∃ d, owns (c : Thread nD τ) arg3 fullShare d)
        ∗ owns (c : Thread nD τ) arg4 fullShare m ∗ owns (c : Thread nD τ) arg5 fullShare n
        ∗ (iprop(owns (c : Thread nD τ) arg1 fullShare x ∗ owns (c : Thread nD τ) arg2 fullShare u ∗ owns (c : Thread nD τ) arg3 fullShare (k0_pay9 i u x m n)
              ∗ owns (c : Thread nD τ) arg4 fullShare (k0_pay8 i u x m m) ∗ owns (c : Thread nD τ) arg5 fullShare (k0_pay9 i u x m n)) -∗ K ⟨⟩))
      ⊢ wp frame (wpE (defs₀ (F := F)) Variants.none c none) E (cc0__scan_body i arg1 harg1 arg2 harg2 arg3 harg3 arg4 harg4 arg5 harg5) K := by
  unfold cond1 at hc1; unfold cond2 at hc2
  simp only [cc0__scan_body_eq_skeleton]; unfold cc0__scan_body_skel
  simp only [k0_part1_eq_skeleton]; unfold k0_part1_skel
  unfold owns
  iintro ⟨⟨%f1, %hf1, H1⟩, ⟨%f2, %hf2, H2⟩, ⟨%d3, %f3, -, H3⟩, ⟨%f4, %hf4, H4⟩, ⟨%f5, %hf5, H5⟩, Hk⟩
  subst hf1 hf2 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr; swap; · iexact H3
    ipureintro; rw [View.read_writes_full]; unfold scan_last.sl.v37 scan_last.sl.H5_1; rw [View.readCov_full]; repeat rw [View.readAt_full]
  isplitl [H4]
  · iexists _; isplitr; swap; · iexact H4
    ipureintro
    rw [View.read_writes_full]; repeat rw [View.readAt_full]
  iexists _; isplitr; swap; · iexact H5
  ipureintro
  unfold scan_last.sl.H5_1; rw [View.read_writes_full]; repeat rw [View.readAt_full]

end Cert.KernelIdeal.Hand

end
-- ==== Proof.ScanBlock.lean ====
/- The noisy block the scan kernel computes: its columns, its lanes, and that the lanes a clipped block never received
   do not matter. -/
module

public import proofs.«01_k».proof.Proof.ScanBody
public import Idealize.ShloMosaic.Lib.WordCmp
public import Idealize.ShloMosaic.Lib.Pointwise.ShapeOpsCore
public import Idealize.ShloMosaic.Lib.Pipeline.Value

@[expose] public section

noncomputable section

namespace Cert.KernelIdeal.Hand

open Cert.KernelIdeal Cert.KernelIdeal.Gen
open Idealize.ShloMosaic Idealize.ShloMosaic.TcCoe

variable {F : FTy → Type} [FloatOps F]

/-- The grid coordinate is below 4. -/
theorem coord_lt (i : grid0.Coords) : (i 0).val < 4 := (i 0).isLt

/-- A lane of a block counts its column in the whole row. -/
theorem cols_at (i : grid0.Coords) (j : S64x32768.Idx) :
    k0_pay1 i j = BitVec.ofNat 32 ((i 0).val * 32768 + (j 1).val) := by
  have e : k0_pay1 i j = BitVec.ofNat 32 (0 * S64x32768.size 1 + (j 1).val) + BitVec.ofNat 32 (i 0).val * 32768#32 := rfl
  rw [e]
  have h1 : (j 1).val < 32768 := (j 1).isLt
  have h0 := coord_lt i
  apply BitVec.eq_of_toNat_eq
  simp only [BitVec.toNat_add, BitVec.toNat_mul, BitVec.toNat_ofNat]
  omega

/-- One lane of the noisy scores: `(x + (0 - log (0 - log u))) / 0.1`. -/
def noisy (u x : F .f32) : F .f32 :=
  FloatOps.divf (FloatOps.addf x (FloatOps.subf (Scalar.ofBits .f32 0x00000000#32)
    (FloatOps.log (FloatOps.subf (Scalar.ofBits .f32 0x00000000#32) (FloatOps.log u))))) (Scalar.ofBits .f32 0x3DCCCCCD#32)

/-- A lane of the noisy block: the noisy score where the column is below 100000, `-inf` past it. -/
theorem scores_at (i : grid0.Coords) (u x : Vec F S64x32768 .f32) (j : S64x32768.Idx) :
    k0_pay2 i u x j = if (i 0).val * 32768 + (j 1).val < 100000 then noisy (u j) (x j)
      else Scalar.ofBits .f32 0xFF800000#32 := by
  have e : k0_pay2 i u x j = Scalar.select (IntOp.cmpi .slt (k0_pay1 i j) 100000#32)
      (noisy (shapeCast S64x32768 u shapeCasts_S64x32768_S64x32768 j) (x j)) (Scalar.ofBits .f32 0xFF800000#32) := rfl
  have h1 : (j 1).val < 32768 := (j 1).isLt
  have h0 := coord_lt i
  rw [e, cols_at, shapeCast_self, show (100000#32 : BitVec 32) = BitVec.ofNat 32 100000 from rfl,
    WordCmp.cmpi_slt_ofNat (by omega) (by omega)]
  by_cases h : (i 0).val * 32768 + (j 1).val < 100000
  · rw [if_pos h, decide_eq_true h]; rfl
  · rw [if_neg h, decide_eq_false h]; rfl

/-- How many lanes of a block of the first array arrive, on each axis. -/
theorem xsize_x (t : Fin grid0.N) : win0_0.xsize (grid0.coords t) 0 = 64
    ∧ win0_0.xsize (grid0.coords t) 1 = min 32768 (100000 - (grid0.coords t 0).val * 32768) := by
  rcases fin_N0 t with rfl | rfl | rfl | rfl <;> constructor <;> decide

/-- Every lane whose column is below 100000 arrives with the block of the first array. -/
theorem moved_x (t : Fin grid0.N) (j : S64x32768.Idx) (h : (grid0.coords t 0).val * 32768 + (j 1).val < 100000) :
    win0_0.moved (grid0.coords t) j = true := by
  rw [Pipeline.Window.moved_iff]
  have h0 : (j 0).val < 64 := (j 0).isLt
  have h1 : (j 1).val < 32768 := (j 1).isLt
  refine Fin.forall_fin_two.mpr ⟨?_, ?_⟩
  · rw [(xsize_x t).1]; exact h0
  · rw [(xsize_x t).2]; omega

/-- How many lanes of a block of the table arrive, on each axis. -/
theorem xsize_u (t : Fin grid0.N) : win0_1.xsize (grid0.coords t) 0 = 64
    ∧ win0_1.xsize (grid0.coords t) 1 = min 32768 (100000 - (grid0.coords t 0).val * 32768) := by
  rcases fin_N0 t with rfl | rfl | rfl | rfl <;> constructor <;> decide

/-- Every lane whose column is below 100000 arrives with the block of the table. -/
theorem moved_u (t : Fin grid0.N) (j : S64x32768.Idx) (h : (grid0.coords t 0).val * 32768 + (j 1).val < 100000) :
    win0_1.moved (grid0.coords t) j = true := by
  rw [Pipeline.Window.moved_iff]
  have h0 : (j 0).val < 64 := (j 0).isLt
  have h1 : (j 1).val < 32768 := (j 1).isLt
  refine Fin.forall_fin_two.mpr ⟨?_, ?_⟩
  · rw [(xsize_u t).1]; exact h0
  · rw [(xsize_u t).2]; omega

/-- A lane that arrives does not depend on what the staging buffer held before. -/
theorem fill_moved {α : Type} (W : Pipeline.Window sig grid0) (i : grid0.Coords) (d d' : W.block.Idx → α)
    (g : (W.xblock i).Idx → α) (j : W.block.Idx) (h : W.moved i j = true) : W.fill i d g j = W.fill i d' g j := by
  unfold Pipeline.Window.fill
  rw [dif_pos h, dif_pos h]

/-- The noisy block depends on the arrived lanes alone. -/
theorem scores_fill (t : Fin grid0.N) (d d' : S64x32768.Idx → F .f32) (e e' : S64x32768.Idx → F .f32)
    (g : (win0_1.xblock (grid0.coords t)).Idx → F .f32) (f : (win0_0.xblock (grid0.coords t)).Idx → F .f32) :
    k0_pay2 (grid0.coords t) (win0_1.fill (grid0.coords t) d g) (win0_0.fill (grid0.coords t) e f)
      = k0_pay2 (grid0.coords t) (win0_1.fill (grid0.coords t) d' g) (win0_0.fill (grid0.coords t) e' f) := by
  funext j
  rw [scores_at, scores_at]
  by_cases h : (grid0.coords t 0).val * 32768 + (j 1).val < 100000
  · rw [if_pos h, if_pos h, fill_moved win0_1 _ d d' g j (moved_u t j h), fill_moved win0_0 _ e e' f j (moved_x t j h)]
  · rw [if_neg h, if_neg h]

section
variable {i : grid0.Coords} {u u' x x' : Vec F S64x32768 .f32}

/-- The row maxima of a block depend on its noisy scores alone. -/
theorem pay3_congr (h : k0_pay2 i u x = k0_pay2 i u' x') : k0_pay3 i u x = k0_pay3 i u' x' := by
  unfold k0_pay3; rw [h]

/-- The first maximal columns of a block depend on its noisy scores alone. -/
theorem pay4_congr (h : k0_pay2 i u x = k0_pay2 i u' x') : k0_pay4 i u x = k0_pay4 i u' x' := by
  unfold k0_pay4; rw [h, pay3_congr h]

/-- The maxima stored at the first point depend on the noisy scores alone. -/
theorem pay5_congr (h : k0_pay2 i u x = k0_pay2 i u' x') : k0_pay5 i u x = k0_pay5 i u' x' := by
  unfold k0_pay5; rw [pay3_congr h]

/-- The columns stored at the first point depend on the noisy scores alone. -/
theorem pay6_congr (h : k0_pay2 i u x = k0_pay2 i u' x') : k0_pay6 i u x = k0_pay6 i u' x' := by
  unfold k0_pay6; rw [pay4_congr h]

/-- The maxima stored at a later point depend on the noisy scores and the carried maxima alone. -/
theorem pay8_congr (h : k0_pay2 i u x = k0_pay2 i u' x') (m m' : Vec F S64x1 .f32) :
    k0_pay8 i u x m m' = k0_pay8 i u' x' m m' := by
  unfold k0_pay8 k0_pay7; rw [pay3_congr h]

/-- The columns stored at a later point depend on the noisy scores and the carried values alone. -/
theorem pay9_congr (h : k0_pay2 i u x = k0_pay2 i u' x') (m : Vec F S64x1 .f32) (n : Vec F S64x1 .i32) :
    k0_pay9 i u x m n = k0_pay9 i u' x' m n := by
  unfold k0_pay9 k0_pay7; rw [pay3_congr h, pay4_congr h]

end

end Cert.KernelIdeal.Hand
-- ==== Proof.ScanRegion.lean ====
/- The scan kernel's pipeline: what its staging buffers and its two scratch buffers hold at each of the four grid points,
   and that its body keeps to that. -/
module

public import proofs.«01_k».proof.Proof.ScanBlock
public import proofs.«01_k».proof.Proof.Gen.KernelIdeal.Points
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ UU ℕ

variable (V : Dev nD → Valuation τ sig (Elt F))

/-- The n-th grid point. -/
def scanPt (n : ℕ) : Fin cfg0.N := ⟨n % 4, Nat.lt_of_lt_of_eq (Nat.mod_lt n (by decide)) N_0.symm⟩

/-- The block of the first array at a point; zero in the lanes past the array's end. -/
def xBlock (c : Dev nD) (t : Fin cfg0.N) : Vec F S64x32768 .f32 :=
  win0_0.fill (grid0.coords t) (fun _ => Scalar.ofBits .f32 0#32)
    (((cfg0.win 0).blk t).view.read (Elt F) (V c (Pipeline.arrRef spec0 0)))

/-- The block of the uniform table at a point; zero in the lanes past the array's end. -/
def uBlock (c : Dev nD) (t : Fin cfg0.N) : Vec F S64x32768 .f32 :=
  win0_1.fill (grid0.coords t) (fun _ => Scalar.ofBits .f32 0#32)
    (((cfg0.win 1).blk t).view.read (Elt F) (V c (Pipeline.arrRef spec0 1)))

/-- The running row maximum after the n-th point. -/
def runMax (c : Dev nD) : ℕ → Vec F S64x1 .f32
  | 0 => k0_pay5 (grid0.coords (scanPt 0)) (uBlock V c (scanPt 0)) (xBlock V c (scanPt 0))
  | n + 1 => k0_pay8 (grid0.coords (scanPt (n + 1))) (uBlock V c (scanPt (n + 1))) (xBlock V c (scanPt (n + 1))) (runMax c n) (runMax c n)

/-- The column of the running row maximum after the n-th point. -/
def runCol (c : Dev nD) : ℕ → Vec F S64x1 .i32
  | 0 => k0_pay6 (grid0.coords (scanPt 0)) (uBlock V c (scanPt 0)) (xBlock V c (scanPt 0))
  | n + 1 => k0_pay9 (grid0.coords (scanPt (n + 1))) (uBlock V c (scanPt (n + 1))) (xBlock V c (scanPt (n + 1))) (runMax V c n) (runCol c n)

/-- The second kernel's staging buffers, at anything. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- What the body keeps between points: the scratch buffers at anything before the first point, at the running maximum
    and its column after a point. -/
def scanInv (c : Dev nD) : ℕ → sProp 𝕄
  | 0 => Pipeline.scopedRest spec0 c
  | n + 1 => iprop(owns (c : Thread nD τ) (Memref.whole cc0_scratch0) fullShare (runMax V c n)
      ∗ owns (c : Thread nD τ) (Memref.whole cc0_scratch1) fullShare (runCol V c n) ∗ others c)

/-- What the body keeps after the n-th point. -/
theorem scanInv_succ (c : Dev nD) (n : ℕ) : scanInv V c (n + 1)
    = iprop(owns (c : Thread nD τ) (Memref.whole cc0_scratch0) fullShare (runMax V c n)
      ∗ owns (c : Thread nD τ) (Memref.whole cc0_scratch1) fullShare (runCol V c n) ∗ others c) := rfl

/-- The proof data of the scan kernel's pipeline. -/
def scanDat (c : Dev nD) : Dat τ (Elt F) Unit ℕ UU ℕ cfg0 c where
  A w := V c (Pipeline.arrRef spec0 w)
  after w t := match w with
    | ⟨0, _⟩ => xBlock V c t
    | ⟨1, _⟩ => uBlock V c t
    | ⟨2, _⟩ => runCol V c t.val
  Φ t := scanInv V c t.val
  q _ := fullShare
  owed _ := 0

theorem scan_after0 (c : Dev nD) (t : Fin cfg0.N) : (scanDat V c).after 0 t = xBlock V c t := by dsimp only [scanDat]
theorem scan_after1 (c : Dev nD) (t : Fin cfg0.N) : (scanDat V c).after 1 t = uBlock V c t := by dsimp only [scanDat]
theorem scan_after2 (c : Dev nD) (t : Fin cfg0.N) : (scanDat V c).after 2 t = runCol V c t.val := by dsimp only [scanDat]

/-- The first array's buffer when the body runs: its block over what was there. -/
theorem scan_before0 (c : Dev nD) (t : Fin cfg0.N) (d) : (scanDat V c).before 0 t d
    = win0_0.fill (grid0.coords t) d (((cfg0.win 0).blk t).view.read (Elt F) (V c (Pipeline.arrRef spec0 0))) := by
  unfold Dat.before; rw [if_pos (fetch0_0 t)]; unfold Dat.fetched Dat.blockOf; dsimp only [scanDat]

/-- The table's buffer when the body runs: its block over what was there. -/
theorem scan_before1 (c : Dev nD) (t : Fin cfg0.N) (d) : (scanDat V c).before 1 t d
    = win0_1.fill (grid0.coords t) d (((cfg0.win 1).blk t).view.read (Elt F) (V c (Pipeline.arrRef spec0 1))) := by
  unfold Dat.before; rw [if_pos (fetch0_1 t)]; unfold Dat.fetched Dat.blockOf; dsimp only [scanDat]

/-- The noisy scores of the buffers the body finds are those of the named blocks. -/
theorem scores_before (c : Dev nD) (t : Fin cfg0.N) (d1) (d0) :
    k0_pay2 (grid0.coords t) ((scanDat V c).before 1 t d1) ((scanDat V c).before 0 t d0)
      = k0_pay2 (grid0.coords t) (uBlock V c t) (xBlock V c t) := by
  rw [scan_before0, scan_before1]
  exact scores_fill t _ _ _ _ _ _

/-- A buffer that holds its block still holds it, up to the lanes no transfer moves. -/
theorem scan_back0 (c : Dev nD) (t : Fin cfg0.N) (d) : (scanDat V c).before 0 t d
    = win0_0.fill (grid0.coords t) d (win0_0.cut (grid0.coords t) ((scanDat V c).after 0 t)) := by
  rw [scan_before0, scan_after0]; unfold xBlock; rw [Pipeline.Window.cut_fill]

theorem scan_back1 (c : Dev nD) (t : Fin cfg0.N) (d) : (scanDat V c).before 1 t d
    = win0_1.fill (grid0.coords t) d (win0_1.cut (grid0.coords t) ((scanDat V c).after 1 t)) := by
  rw [scan_before1, scan_after1]; unfold uBlock; rw [Pipeline.Window.cut_fill]

/-- What the body is called with at a point. -/
def scanPre (c : Dev nD) (t : Fin cfg0.N) : sProp 𝕄 :=
  iprop((scanDat V c).Φ t.castSucc ∗ (scanDat V c).owesAt () t.castSucc
    ∗ (∃ d, owns (c : Thread nD τ) (st0_0 t) fullShare ((scanDat V c).before 0 t d))
    ∗ (∃ d, owns (c : Thread nD τ) (st0_1 t) fullShare ((scanDat V c).before 1 t d))
    ∗ (∃ d, owns (c : Thread nD τ) (st0_2 t) fullShare ((scanDat V c).before 2 t d)))

/-- What it returns, for what it leaves in the index's buffer. -/
def scanPost (c : Dev nD) (t : Fin cfg0.N) (P : sProp 𝕄) : sProp 𝕄 :=
  iprop((scanDat V c).Φ t.succ ∗ (scanDat V c).owesAt () t.succ
    ∗ (∃ d, owns (c : Thread nD τ) (st0_0 t) fullShare (win0_0.fill (grid0.coords t) d (win0_0.cut (grid0.coords t) ((scanDat V c).after 0 t))))
    ∗ (∃ d, owns (c : Thread nD τ) (st0_1 t) fullShare (win0_1.fill (grid0.coords t) d (win0_1.cut (grid0.coords t) ((scanDat V c).after 1 t))))
    ∗ P)

/-- The first point. -/
theorem scan_at_first (c : Dev nD) : scanPre V c t0_0 ⊢ wp frame (wpE (defs₀ (F := F)) Variants.none c none) Set.univ (bodyAt0 t0_0)
    (fun _ => scanPost V c t0_0 iprop(∃ d, owns (c : Thread nD τ) (st0_2 t0_0) fullShare ((scanDat V c).before 2 t0_0 d))) := by
  unfold scanPre scanPost bodyAt0
  rw [show (scanDat V c).owesAt () t0_0.succ = (scanDat V c).owesAt () t0_0.castSucc from rfl,
    show (scanDat V c).Φ t0_0.castSucc = Pipeline.scopedRest spec0 c from rfl,
    show (scanDat V c).Φ t0_0.succ = iprop(owns (c : Thread nD τ) (Memref.whole cc0_scratch0) fullShare (runMax V c 0)
      ∗ owns (c : Thread nD τ) (Memref.whole cc0_scratch1) fullShare (runCol V c 0) ∗ others c) from rfl,
    scopedRest0_eq]
  iintro ⟨⟨⟨%s0, HS0⟩, ⟨%s1, HS1⟩, Hr⟩, Ho, ⟨%d0, H0⟩, ⟨%d1, H1⟩, ⟨%d2, H2⟩⟩
  iapply (scan_first c Set.univ _ _ _ _ _ _ _ _ _ _ _ ((scanDat V c).before 0 t0_0 d0) ((scanDat V c).before 1 t0_0 d1)
    (by decide) (by decide) (by decide) ((scanDat V c).before 2 t0_0 d2) _)
  isplitl [H0]; · iexact H0
  isplitl [H1]; · iexact H1
  isplitl [H2]; · iexact H2
  isplitl [HS0]; · iexists s0; rw [owns_whole]; iexact HS0
  isplitl [HS1]; · iexists s1; rw [owns_whole]; iexact HS1
  rw [pay5_congr (scores_before V c t0_0 d1 d0), pay6_congr (scores_before V c t0_0 d1 d0)]
  iintro ⟨H0, H1, H2, HS0, HS1⟩
  isplitl [HS0 HS1 Hr]
  · isplitl [HS0]; · iexact HS0
    isplitl [HS1]; · iexact HS1
    unfold others; iexact Hr
  isplitl [Ho]; · iexact Ho
  isplitl [H0]; · iexists d0; rw [← scan_back0]; iexact H0
  isplitl [H1]; · iexists d1; rw [← scan_back1]; iexact H1
  iexists d2; iexact H2

/-- A middle point, the n+1-st. -/
theorem scan_at_middle (c : Dev nD) (n : ℕ) (t : Fin cfg0.N) (ht : t = scanPt (n + 1)) (hv : t.val = n + 1)
    (h1 : ¬cond1 (grid0.coords t) = 1#1) (h2 : cond2 (grid0.coords t) = 1#1) (h3 : ¬k0_cond3 (grid0.coords t) = 1#1) :
    scanPre V c t ⊢ wp frame (wpE (defs₀ (F := F)) Variants.none c none) Set.univ (bodyAt0 t)
      (fun _ => scanPost V c t iprop(∃ d, owns (c : Thread nD τ) (st0_2 t) fullShare ((scanDat V c).before 2 t d))) := by
  unfold scanPre scanPost bodyAt0
  have e1 : (scanDat V c).Φ t.castSucc = scanInv V c (n + 1) := by
    rw [← hv]; dsimp only [scanDat]; rfl
  have e2 : (scanDat V c).Φ t.succ = scanInv V c (n + 1 + 1) := by
    rw [← hv]; dsimp only [scanDat]; rfl
  have em : runMax V c (n + 1) = k0_pay8 (grid0.coords t) (uBlock V c t) (xBlock V c t) (runMax V c n) (runMax V c n) := by
    rw [ht]; rfl
  have ec : runCol V c (n + 1) = k0_pay9 (grid0.coords t) (uBlock V c t) (xBlock V c t) (runMax V c n) (runCol V c n) := by
    rw [ht]; rfl
  rw [show (scanDat V c).owesAt () t.succ = (scanDat V c).owesAt () t.castSucc from rfl, e1, e2]
  rw [scanInv_succ, scanInv_succ, em, ec]
  iintro ⟨⟨HS0, HS1, Hr⟩, Ho, ⟨%d0, H0⟩, ⟨%d1, H1⟩, ⟨%d2, H2⟩⟩
  iapply (scan_middle c Set.univ _ _ _ _ _ _ _ _ _ _ _ ((scanDat V c).before 0 t d0) ((scanDat V c).before 1 t d1)
    h1 h2 h3 ((scanDat V c).before 2 t d2) (runMax V c n) (runCol V c n) _)
  isplitl [H0]; · iexact H0
  isplitl [H1]; · iexact H1
  isplitl [H2]; · iexact H2
  isplitl [HS0]; · iexact HS0
  isplitl [HS1]; · iexact HS1
  rw [pay8_congr (scores_before V c t d1 d0), pay9_congr (scores_before V c t d1 d0)]
  iintro ⟨H0, H1, H2, HS0, HS1⟩
  isplitl [HS0 HS1 Hr]
  · isplitl [HS0]; · iexact HS0
    isplitl [HS1]; · iexact HS1
    iexact Hr
  isplitl [Ho]; · iexact Ho
  isplitl [H0]; · iexists d0; rw [← scan_back0]; iexact H0
  isplitl [H1]; · iexists d1; rw [← scan_back1]; iexact H1
  iexists d2; iexact H2

/-- The last point: the column goes out too. -/
theorem scan_at_last (c : Dev nD) : scanPre V c t0_3 ⊢ wp frame (wpE (defs₀ (F := F)) Variants.none c none) Set.univ (bodyAt0 t0_3)
    (fun _ => scanPost V c t0_3 (owns (c : Thread nD τ) (st0_2 t0_3) fullShare ((scanDat V c).after 2 t0_3))) := by
  unfold scanPre scanPost bodyAt0
  rw [show (scanDat V c).owesAt () t0_3.succ = (scanDat V c).owesAt () t0_3.castSucc from rfl,
    show (scanDat V c).Φ t0_3.castSucc = scanInv V c (2 + 1) from rfl,
    show (scanDat V c).Φ t0_3.succ = scanInv V c (3 + 1) from rfl, scan_after2, show (t0_3 : Fin cfg0.N).val = 3 from rfl]
  have em : runMax V c 3 = k0_pay8 (grid0.coords t0_3) (uBlock V c t0_3) (xBlock V c t0_3) (runMax V c 2) (runMax V c 2) := rfl
  have ec : runCol V c 3 = k0_pay9 (grid0.coords t0_3) (uBlock V c t0_3) (xBlock V c t0_3) (runMax V c 2) (runCol V c 2) := rfl
  rw [scanInv_succ, scanInv_succ, em, ec]
  iintro ⟨⟨HS0, HS1, Hr⟩, Ho, ⟨%d0, H0⟩, ⟨%d1, H1⟩, ⟨%d2, H2⟩⟩
  iapply (scan_last c Set.univ _ _ _ _ _ _ _ _ _ _ _ ((scanDat V c).before 0 t0_3 d0) ((scanDat V c).before 1 t0_3 d1)
    (by decide) (by decide) (by decide) (runMax V c 2) (runCol V c 2) _)
  isplitl [H0]; · iexact H0
  isplitl [H1]; · iexact H1
  isplitl [H2]; · iexists _; iexact H2
  isplitl [HS0]; · iexact HS0
  isplitl [HS1]; · iexact HS1
  rw [pay8_congr (scores_before V c t0_3 d1 d0), pay9_congr (scores_before V c t0_3 d1 d0)]
  iintro ⟨H0, H1, H2, HS0, HS1⟩
  isplitl [HS0 HS1 Hr]
  · isplitl [HS0]; · iexact HS0
    isplitl [HS1]; · iexact HS1
    iexact Hr
  isplitl [Ho]; · iexact Ho
  isplitl [H0]; · iexists d0; rw [← scan_back0]; iexact H0
  isplitl [H1]; · iexists d1; rw [← scan_back1]; iexact H1
  iexact H2

/-- The body table's row at a point's slots is the body. -/
theorem scan_row (t : Fin cfg0.N) : defs₀ (F := F) .tc cfg0.body (cfg0.bodyArgs t (cfg0.slots t)) = bodyAt0 t := by
  unfold defs₀; rw [Defs.onTc_tc]

/-- The body obligation, at every point. -/
theorem scan_obligation (c : Dev nD) :
    Pipeline.BodyObligationLoose (scanDat V c) (defs₀ (F := F)) Variants.none () Set.univ := fun t => by
  rcases fin_N0 t with rfl | rfl | rfl | rfl
  all_goals rw [bigSep_W0, bigSep_W0, scan_row]
  · exact triple_restated (scan_at_first V c) rfl .rfl fun _ => .rfl
  · exact triple_restated (scan_at_middle V c 0 t0_1 rfl rfl (by decide) (by decide) (by decide)) rfl .rfl fun _ => .rfl
  · exact triple_restated (scan_at_middle V c 1 t0_2 rfl rfl (by decide) (by decide) (by decide)) rfl .rfl fun _ => .rfl
  · exact triple_restated (scan_at_last V c) rfl .rfl fun _ => .rfl

end Cert.KernelIdeal.Hand

end
-- ==== Proof.OneHotBody.lean ====
/- What the one-hot kernel's body does at one grid point, over staging memrefs at any contents. -/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.Kit
public import Idealize.ShloMosaic.Lib.VecWindow
public import Idealize.ShloMosaic.Lib.Tactic
public import proofs.«01_k».proof.Proof.ScanBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ UU ℕ

/-- The body stores the one-hot block of the columns it loads. -/
theorem onehot_run (c : Dev nD) (E : Set ℕ) (i : grid1.Coords) (arg1 : Memref sig .tc .vmem S64x1 .i32) (harg1 : arg1.IsWhole)
    (arg2 : Memref sig .tc .vmem S64x32768 .f32) (harg2 : arg2.IsWhole) (n : Vec F S64x1 .i32) (K : PUnit → sProp 𝕄) :
    iprop(owns (c : Thread nD τ) arg1 fullShare n ∗ (∃ d, owns (c : Thread nD τ) arg2 fullShare d)
        ∗ (iprop(owns (c : Thread nD τ) arg1 fullShare n ∗ owns (c : Thread nD τ) arg2 fullShare (k1_pay1 i n)) -∗ K ⟨⟩))
      ⊢ wp frame (wpE (defs₀ (F := F)) Variants.none c none) E (cc1__onehot_body i arg1 harg1 arg2 harg2) K := by
  simp only [cc1__onehot_body_eq_skeleton]; unfold cc1__onehot_body_skel
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr; swap; · iexact H2
  ipureintro
  rw [View.read_writes_full]; repeat rw [View.readAt_full]

end Cert.KernelIdeal.Hand

end
-- ==== Proof.OneHotRegion.lean ====
/- The one-hot kernel's pipeline: what its staging buffers hold at each grid point, and that its body keeps to that. -/
module

public import proofs.«01_k».proof.Proof.OneHotBody
public import proofs.«01_k».proof.Proof.Gen.KernelIdeal.Points
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ UU ℕ

variable (V : Dev nD → Valuation τ sig (Elt F))

/-- The block of columns at a point. -/
def colBlock (c : Dev nD) (t : Fin cfg1.N) : Vec F S64x1 .i32 :=
  ((cfg1.win 0).blk t).view.read (Elt F) (V c (Pipeline.arrRef spec1 0))

/-- The proof data of the one-hot kernel's pipeline. -/
def hotDat (c : Dev nD) : Dat τ (Elt F) Unit ℕ UU ℕ cfg1 c where
  A w := V c (Pipeline.arrRef spec1 w)
  after w t := match w with
    | ⟨0, _⟩ => colBlock V c t
    | ⟨1, _⟩ => k1_pay1 (grid1.coords t) (colBlock V c t)
  Φ _ := Pipeline.scopedRest spec1 c
  q _ := fullShare
  owed _ := 0

theorem hot_after0 (c : Dev nD) (t : Fin cfg1.N) : (hotDat V c).after 0 t = colBlock V c t := by dsimp only [hotDat]
theorem hot_after1 (c : Dev nD) (t : Fin cfg1.N) : (hotDat V c).after 1 t = k1_pay1 (grid1.coords t) (colBlock V c t) := by
  dsimp only [hotDat]

/-- The columns' buffer holds the block at every point. -/
theorem hot_before0 (c : Dev nD) (t : Fin cfg1.N) (d) : (hotDat V c).before 0 t d = colBlock V c t :=
  (hotDat V c).before_in_eq_fetched 0 rfl (fun _ => rfl) (fun _ _ _ => rfl)
    (fun t => by rw [hot_after0]; unfold Dat.blockOf colBlock; dsimp only [hotDat]) t d

/-- What the body is called with at a point. -/
def hotPre (c : Dev nD) (t : Fin cfg1.N) : sProp 𝕄 :=
  iprop((hotDat V c).Φ t.castSucc ∗ (hotDat V c).owesAt () t.castSucc
    ∗ (∃ d, owns (c : Thread nD τ) (st1_0 t) fullShare ((hotDat V c).before 0 t d))
    ∗ (∃ d, owns (c : Thread nD τ) (st1_1 t) fullShare ((hotDat V c).before 1 t d)))

/-- What it returns. -/
def hotPost (c : Dev nD) (t : Fin cfg1.N) : sProp 𝕄 :=
  iprop((hotDat V c).Φ t.succ ∗ (hotDat V c).owesAt () t.succ
    ∗ owns (c : Thread nD τ) (st1_0 t) fullShare ((hotDat V c).after 0 t)
    ∗ owns (c : Thread nD τ) (st1_1 t) fullShare ((hotDat V c).after 1 t))

/-- The body at any point. -/
theorem hot_at (c : Dev nD) (t : Fin cfg1.N) :
    hotPre V c t ⊢ wp frame (wpE (defs₀ (F := F)) Variants.none c none) Set.univ (bodyAt1 t) (fun _ => hotPost V c t) := by
  unfold hotPre hotPost bodyAt1
  simp only [hot_before0]
  rw [show (hotDat V c).Φ t.succ = (hotDat V c).Φ t.castSucc from rfl,
    show (hotDat V c).owesAt () t.succ = (hotDat V c).owesAt () t.castSucc from rfl, hot_after0, hot_after1]
  iintro ⟨HΦ, Ho, ⟨%d0, H0⟩, ⟨%d1, H1⟩⟩
  iapply (onehot_run c Set.univ _ _ _ _ _ (colBlock V c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at a point's slots is the body. -/
theorem hot_row (t : Fin cfg1.N) : defs₀ (F := F) .tc cfg1.body (cfg1.bodyArgs t (cfg1.slots t)) = bodyAt1 t := by
  unfold defs₀; rw [Defs.onTc_tc]

/-- The body obligation, at every point. -/
theorem hot_obligation (c : Dev nD) :
    Pipeline.BodyObligation (hotDat V c) (defs₀ (F := F)) Variants.none () Set.univ := fun t => by
  rw [bigSep_W1, bigSep_W1, hot_row]
  exact triple_restated (hot_at V c t) rfl .rfl fun _ => .rfl

end Cert.KernelIdeal.Hand

end
-- ==== Proof.KernelRun.lean ====
/- The run of the whole program: the two kernels' regions as segments between the host operations, the arguments
   unchanged at the end, and the result array at what the second pipeline computes. -/
module

public import proofs.«01_k».proof.Proof.ScanRegion
public import proofs.«01_k».proof.Proof.OneHotRegion
public import proofs.«01_k».proof.Proof.Gen.KernelIdeal.Regions
public import Idealize.ShloMosaic.Lib.Pipeline.RegionArraysS

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ UU ℕ

section Regions

variable (V W : Dev nD → Valuation τ sig (Elt F))

/-- The two pipelines' proof data, entered at `V` and at `W`. -/
def pdats : (p : Fin 2) → (c : Dev nD) → Dat τ (Elt F) Unit ℕ UU ℕ (cfgs p) c
  | ⟨0, _⟩ => fun c => scanDat V c
  | ⟨1, _⟩ => fun c => hotDat W c

/-- The staging semaphores carry the one index, at level zero. -/
def L : GSem nD τ sig → Finset Unit := fun g => if g.1.2 = .tc then {()} else ∅
def lv : GSem nD τ sig → Unit → ℕ := fun _ _ => 0

/-- No core owes another anything. -/
abbrev owing : Dev nD → CellTallies nD τ sig Unit := fun _ => 0

/-- The empty state. -/
abbrev nothing : Dev nD → sProp 𝕄 := fun _ => iprop(emp)

/-- What rides beside the buffers: the core owes nothing. -/
abbrev rest (c : Dev nD) : sProp 𝕄 := iprop((∃ W, owes (c : Thread nD τ) (owing c) W) ∗ nothing c ∗ nothing c)

/-- The levels suffice for a region whose core owes nothing. -/
theorem cut (p : Fin 2) : Pipeline.LevelCut (pcfgs (F := F)) adm () L lv p owing (fun _ => 0) where
  hι c w s := by unfold L; rw [if_pos rfl]; exact Finset.mem_singleton.mpr rfl
  hιb _ _ _ := le_rfl
  hD _ _ _ h := absurd h (lt_irrefl _)

theorem scan_in (c : Dev nD) : iprop(Pipeline.scopedRest spec0 c ∗ nothing c) ⊢ (scanDat V c).Φ 0 := by
  rw [show (scanDat V c).Φ 0 = Pipeline.scopedRest spec0 c from rfl]
  iintro ⟨H, -⟩; iexact H

theorem scan_out (c : Dev nD) : (scanDat V c).Φ (Fin.last cfg0.N) ⊢ iprop(Pipeline.scopedRest spec0 c ∗ nothing c) := by
  rw [show (scanDat V c).Φ (Fin.last cfg0.N) = scanInv V c (3 + 1) from rfl, scanInv_succ, scopedRest0_eq, owns_whole, owns_whole]
  unfold others
  iintro ⟨H0, H1, Hr⟩
  isplitl
  · isplitl [H0]; · iexists _; iexact H0
    isplitl [H1]; · iexists _; iexact H1
    iexact Hr
  iempintro

theorem hot_in (c : Dev nD) : iprop(Pipeline.scopedRest spec1 c ∗ nothing c) ⊢ (hotDat W c).Φ 0 := by
  rw [show (hotDat W c).Φ 0 = Pipeline.scopedRest spec1 c from rfl]
  iintro ⟨H, -⟩; iexact H

theorem hot_out (c : Dev nD) : (hotDat W c).Φ (Fin.last cfg1.N) ⊢ iprop(Pipeline.scopedRest spec1 c ∗ nothing c) := by
  rw [show (hotDat W c).Φ (Fin.last cfg1.N) = Pipeline.scopedRest spec1 c from rfl]
  iintro H
  isplitl; · iexact H
  iempintro

set_option backward.isDefEq.respectTransparency.types false in
/-- The scan kernel's region. -/
def regScan : RegionSeg (pcfgs (F := F)) adm (pdats V W) () defs₀ Variants.none L lv 0 :=
  RegionSeg.ofHeldIn (pcfgs (F := F)) adm (pdats V W) () defs₀ Variants.none L lv 0 owing (Pipeline.ucRefs τ sig)
    nothing nothing launch0.toP rfl (scan_obligation V)
    (fun _ _ => rfl) (fun _ => rfl) (fun c => (scanDat V c).share_full fun _ => rfl)
    (scan_in V) (scan_out V) (fun _ => 0) (cut 0) nothing V (fun _ _ => rfl)

set_option backward.isDefEq.respectTransparency.types false in
/-- The one-hot kernel's region. -/
def regHot : RegionSeg (pcfgs (F := F)) adm (pdats V W) () defs₀ Variants.none L lv 1 :=
  RegionSeg.ofHeldIn (pcfgs (F := F)) adm (pdats V W) () defs₀ Variants.none L lv 1 owing (Pipeline.ucRefs τ sig)
    nothing nothing launch1.toP rfl (fun c => (hot_obligation W c).loose)
    (fun _ _ => rfl) (fun _ => rfl) (fun c => (hotDat W c).share_full fun _ => rfl)
    (hot_in W) (hot_out W) (fun _ => 0) (cut 1) nothing W (fun _ _ => rfl)

theorem arrs0 : Pipeline.arrRefs (τ := τ) spec0 ⊆ Pipeline.ucRefs τ sig := Pipeline.arrRefs_sub_ucRefs _ (by decide)
theorem arrs1 : Pipeline.arrRefs (τ := τ) spec1 ⊆ Pipeline.ucRefs τ sig := Pipeline.arrRefs_sub_ucRefs _ (by decide)

/-- The scan kernel's region is entered from the buffers at `V`. -/
theorem regScan_pre (c : Dev nD) :
    iprop(StableHlo.held (c : Thread nD τ) (Pipeline.ucRefs τ sig) (V c) ∗ rest c) ⊢ (regScan V W).pre c :=
  RegionSeg.ofHeldIn_pre arrs0 c

/-- It is left with the windows' arrays at what its pipeline computes. -/
theorem regScan_post (c : Dev nD) : (regScan V W).post c
    ⊢ iprop(StableHlo.held (c : Thread nD τ) (Pipeline.ucRefs τ sig) (Pipeline.afterRegion (scanDat V c) (V c)) ∗ rest c) :=
  RegionSeg.ofHeldIn_post arrs0 c

/-- The one-hot kernel's region is entered from the buffers at `W`. -/
theorem regHot_pre (c : Dev nD) :
    iprop(StableHlo.held (c : Thread nD τ) (Pipeline.ucRefs τ sig) (W c) ∗ rest c) ⊢ (regHot V W).pre c :=
  RegionSeg.ofHeldIn_pre arrs1 c

/-- It is left with the windows' arrays at what its pipeline computes. -/
theorem regHot_post (c : Dev nD) : (regHot V W).post c
    ⊢ iprop(StableHlo.held (c : Thread nD τ) (Pipeline.ucRefs τ sig) (Pipeline.afterRegion (hotDat W c) (W c)) ∗ rest c) :=
  RegionSeg.ofHeldIn_post arrs1 c

/-- A buffer the program holds between kernels is a reference of the core. -/
theorem held_ref {b : DevRef τ sig} (hb : b ∈ Pipeline.ucRefs τ sig) : ∃ r : Ref sig .tc, b = Proc.devRef .tc r := by
  obtain ⟨hb, -⟩ := Finset.mem_filter.mp hb
  obtain ⟨r, -, rfl⟩ := Finset.mem_map.mp hb
  exact ⟨r, rfl⟩

/-- The scan kernel keeps every buffer but the index array. -/
theorem scan_keeps (c : Dev nD) (r : Ref sig .tc) (h : r ≠ main_v182) :
    Pipeline.afterRegion (scanDat V c) (V c) r = V c r :=
  Pipeline.afterRegion_keeps (scanDat V c) (V c) launch0.win.arr_inj (fun _ => rfl) r fun w hw => by
    fin_cases w
    · rfl
    · rfl
    · exact absurd hw.symm h

/-- The one-hot kernel keeps every buffer but the result array. -/
theorem hot_keeps (c : Dev nD) (r : Ref sig .tc) (h : r ≠ main_v183) :
    Pipeline.afterRegion (hotDat W c) (W c) r = W c r :=
  Pipeline.afterRegion_keeps (hotDat W c) (W c) launch1.win.arr_inj (fun _ => rfl) r fun w hw => by
    fin_cases w
    · rfl
    · exact absurd hw.symm h

end Regions

variable (m : (ℓ : Loc nD τ sig) → Buf (Elt F) ℓ) (ρ : Dev nD → PrngReg)

/-- The buffers after the scan kernel. -/
def afterScan (c : Dev nD) : Valuation τ sig (Elt F) := Pipeline.afterRegion (scanDat (V1 m) c) (V1 m c)

/-- The buffers after the one-hot kernel. -/
def afterHot (c : Dev nD) : Valuation τ sig (Elt F) := Pipeline.afterRegion (hotDat (afterScan m) c) (afterScan m c)

/-- What each region leaves in the buffer it writes. -/
def outs : Outs (F := F) := fun n r c => if n = 2 then afterScan m c r else afterHot m c r

theorem outs_scan (c : Dev nD) (r : Ref sig .tc) : outs m 2 r c = afterScan m c r := if_pos rfl
theorem outs_hot (c : Dev nD) (r : Ref sig .tc) : outs m 3 r c = afterHot m c r := if_neg (by decide)

/-- The scan kernel changes the index array alone. -/
theorem afterScan_eq (c : Dev nD) : ∀ b ∈ Pipeline.ucRefs τ sig, afterScan m c b = V2 m (outs m) c b := fun b hb => by
  obtain ⟨r, rfl⟩ := held_ref hb
  by_cases h : r = main_v182
  · subst h; rw [V2, Function.update_self, outs_scan]
  · rw [V2_of m (outs m) c r (by simpa using h)]
    exact scan_keeps (V1 m) c r h

/-- The one-hot kernel changes the result array alone. -/
theorem afterHot_eq (c : Dev nD) : ∀ b ∈ Pipeline.ucRefs τ sig, afterHot m c b = V3 m (outs m) c b := fun b hb => by
  have hs := afterScan_eq m c b hb
  obtain ⟨r, rfl⟩ := held_ref hb
  by_cases h : r = main_v183
  · subst h; rw [V3, Function.update_self, outs_hot]
  · rw [V3_of m (outs m) c r (by simpa using h), ← hs]
    exact hot_keeps (afterScan m) c r h

/-- The two regions' records in this program. -/
abbrev R0 := regScan (V1 m) (afterScan m)
abbrev R1 := regHot (V1 m) (afterScan m)

theorem scan_entry (c : Dev nD) :
    iprop(StableHlo.held (c : Thread nD τ) (Pipeline.ucRefs τ sig) (V1 m c) ∗ rest c) ⊢ (R0 m).pre c :=
  regScan_pre (V1 m) (afterScan m) c

theorem scan_exit (c : Dev nD) :
    (R0 m).post c ⊢ iprop(StableHlo.held (c : Thread nD τ) (Pipeline.ucRefs τ sig) (V2 m (outs m) c) ∗ rest c) := by
  rw [← StableHlo.held_congr (c : Thread nD τ) (afterScan_eq m c)]
  exact regScan_post (V1 m) (afterScan m) c

theorem hot_entry (c : Dev nD) :
    iprop(StableHlo.held (c : Thread nD τ) (Pipeline.ucRefs τ sig) (V2 m (outs m) c) ∗ rest c) ⊢ (R1 m).pre c := by
  rw [← StableHlo.held_congr (c : Thread nD τ) (afterScan_eq m c)]
  exact regHot_pre (V1 m) (afterScan m) c

theorem hot_exit (c : Dev nD) :
    (R1 m).post c ⊢ iprop(StableHlo.held (c : Thread nD τ) (Pipeline.ucRefs τ sig) (V3 m (outs m) c) ∗ rest c) := by
  rw [← StableHlo.held_congr (c : Thread nD τ) (afterHot_eq m c)]
  exact regHot_post (V1 m) (afterScan m) c

/-- The launch element: the pipelines' rounds alone. -/
abbrev start : UU := initOf (Pipeline.cells cfgs cellOf_inj) (Pipeline.launchToks cfgs cellOf_inj)

set_option backward.isDefEq.respectTransparency.types false in
/-- From any memory with zero counters every fair execution of the program ends, with the argument as launched, the
    result array at what the one-hot kernel's pipeline leaves in it, and every semaphore counter at zero. -/
theorem run_result : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v183) = afterHot m c main_v183)
      ∧ r.2.sem = fun _ => 0) := by
  refine Pipeline.θ_run_regions_kit_dev_sems (pcfgs (F := F)) adm (pdats (V1 m) (afterScan m)) () cellOf_inj emb₁ defs₀ Variants.none L lv m ρ main
    (segs m Variants.none L lv (fun _ => rest) () (pdats (V1 m) (afterScan m)) (R0 m) (R1 m))
    (fun c Q => by
      rewrite [main_chain c, Seg.run_eq_chain,
        show (segs m Variants.none L lv (fun _ => rest) () (pdats (V1 m) (afterScan m)) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) owing
    (fun g hg => by unfold L; rw [if_neg hg]) nothing start
    (by
      iintro Hu
      imodintro
      isplitl [Hu]
      · iapply (show (ownU start : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V3 m (outs m) c))
    (hch := fun c => ⟨.rfl, scan_entry m c, (scan_exit m c).trans (hot_entry m c),
      (hot_exit m c).trans (sep_mono .rfl (by iintro ⟨H, -, -⟩; iexact H))⟩)
    (hinit := ?_)
    (QY := fun c s => s.mem ((c.tc : Thread nD τ).loc main_arg0) = m ((c.tc : Thread nD τ).loc main_arg0)
      ∧ s.mem ((c.tc : Thread nD τ).loc main_v183) = afterHot m c main_v183)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      have m0 : (Proc.devRef .tc main_arg0 : DevRef τ sig) ∈ Pipeline.ucRefs τ sig := Pipeline.devRef_mem_ucRefs rfl
      have m1 : (Proc.devRef .tc main_v183 : DevRef τ sig) ∈ Pipeline.ucRefs τ sig := Pipeline.devRef_mem_ucRefs rfl
      exact ⟨(h _ m0).trans (V3_main_arg0 m (outs m) c), (h _ m1).trans (afterHot_eq m c _ m1).symm⟩
    · iexact HSI

/-- The frame: the argument ends as launched and every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).1, h.2⟩) (run_result m ρ)

end Cert.KernelIdeal.Hand

end
-- ==== Proof.HostLine.lean ====
/- A straight line of array operations, each writing a fresh buffer: after the line every buffer holds its operation's
   value at what the operand buffers hold after the line. -/
module

public import Idealize.ShloMosaic.Lib.StableHlo.RunRead
public import Idealize.ShloMosaic.Lib.Pipeline.Frame

@[expose] public section

noncomputable section

namespace Cert.HostLine

open Idealize.ShloMosaic Idealize.ShloMosaic.StableHlo

variable {τ : Topo} {sig : RefSig} {Val : EltTy → Type}

/-- A reference's position among the buffers of its memory space. -/
abbrev key (r : Ref sig .tc) : ℕ := r.idx.val

/-- The line's operation `i` writes one buffer, at position `n + i`. -/
def Rising (n : ℕ) (ops : List (HloOp τ sig Val)) : Prop :=
  ∀ i (h : i < ops.length), ∃ w : Ref sig .tc, key w = n + i ∧ ops[i].writes = {Proc.devRef (τ := τ) .tc w}

/-- A line whose written references, listed in order, sit at consecutive positions. -/
theorem Rising.of_list {n : ℕ} {ops : List (HloOp τ sig Val)} (ws : List (Ref sig .tc))
    (hw : ops.map HloOp.writes = ws.map fun w => {Proc.devRef (τ := τ) .tc w})
    (hk : ws.map key = List.range' n ws.length) : Rising n ops := fun i h => by
  have hl : ops.length = ws.length := by simpa using congrArg List.length hw
  have hi : i < ws.length := hl ▸ h
  refine ⟨ws[i], ?_, ?_⟩
  · have := congrArg (fun l => l[i]?) hk
    simpa [List.getElem?_eq_getElem hi, hi] using this
  · have := congrArg (fun l => l[i]?) hw
    simpa [List.getElem?_eq_getElem hi, List.getElem?_eq_getElem h] using this

section Reads

variable {n : ℕ} {ops : List (HloOp τ sig Val)} (V : Valuation τ sig Val)

/-- From operation `i` on the line keeps every buffer below position `n + i`. -/
theorem Rising.keeps (h : Rising n ops) (i : ℕ) {r : Ref sig .tc} (hr : key r < n + i) (W : Valuation τ sig Val) :
    after (ops.drop i) W (Proc.devRef .tc r) = W (Proc.devRef .tc r) :=
  after_of_forall_not_mem _ _ fun op hop hb => by
    obtain ⟨k, hk, rfl⟩ := List.mem_iff_getElem.mp hop
    rw [List.getElem_drop] at hb
    obtain ⟨w, hw, he⟩ := h (i + k) (by rw [List.length_drop] at hk; omega)
    rw [he, Finset.mem_singleton] at hb
    have := Proc.devRef_injective _ hb
    subst this; omega

theorem after_take_drop (i : ℕ) : after ops V = after (ops.drop i) (after (ops.take i) V) := by
  conv_lhs => rw [← List.take_append_drop i ops]
  exact after_append _ _ _

/-- A buffer below the line keeps what it held. -/
theorem Rising.keeps_below (h : Rising n ops) {r : Ref sig .tc} (hr : key r < n) :
    after ops V (Proc.devRef .tc r) = V (Proc.devRef .tc r) := by
  have := h.keeps 0 (r := r) (by omega) V
  simpa using this

/-- What operation `i` reads below its own position is there at the end. -/
theorem Rising.source (h : Rising n ops) (i : ℕ) {r : Ref sig .tc} (hr : key r < n + i) :
    after (ops.take i) V (Proc.devRef .tc r) = after ops V (Proc.devRef .tc r) :=
  ((congrFun (after_take_drop V i) _).trans (h.keeps i hr _)).symm

/-- What operation `i` writes is there at the end. -/
theorem Rising.target (h : Rising n ops) {i : ℕ} {op : HloOp τ sig Val} {rest : List (HloOp τ sig Val)}
    (hop : ops.drop i = op :: rest) {y : Ref sig .tc} (hy : op.writes = {Proc.devRef (τ := τ) .tc y}) :
    key y = n + i ∧ after ops V (Proc.devRef .tc y) = op.result (after (ops.take i) V) (Proc.devRef .tc y) := by
  have hi : i < ops.length := by
    by_contra hc
    rw [List.drop_eq_nil_of_le (by omega)] at hop
    cases hop
  have hc := List.drop_eq_getElem_cons hi
  rw [hop] at hc
  obtain ⟨e1, e2⟩ := List.cons.inj hc
  obtain ⟨w, hw, he⟩ := h i hi
  rw [← e1, hy] at he
  have hyw : y = w := Proc.devRef_injective _ (Finset.singleton_inj.mp he)
  subst hyw
  refine ⟨hw, ?_⟩
  rw [after_take_drop V i, hop, after_cons, e2, h.keeps (i + 1) (by omega)]

end Reads

/-- What a value's buffer holds, at the value's type. -/
def rd (W : Valuation τ sig Val) {T : BufTy} (x : TRef sig T) : T.Contents Val := x.ofBuf (W (Proc.devRef .tc x.ref))

section Builders

variable {n : ℕ} {ops : List (HloOp τ sig Val)} (h : Rising n ops) (V : Valuation τ sig Val)
include h

variable {T Ta Tb Tc Te : BufTy} {rest : List (HloOp τ sig Val)}

theorem Rising.nullary (i : ℕ) {y : TRef sig T} {v : T.Contents Val}
    (hop : ops.drop i = TRef.nullary y v :: rest) : key y.ref = n + i ∧ rd (after ops V) y = v := by
  obtain ⟨hk, e⟩ := h.target V hop (StableHlo.nullary_writes ..)
  refine ⟨hk, ?_⟩
  rw [rd, e, StableHlo.nullary_result, TRef.ofBuf_toBuf]

theorem Rising.unary (i : ℕ) {a : TRef sig Ta} {y : TRef sig T} {f : Ta.Contents Val → T.Contents Val}
    (hop : ops.drop i = TRef.unary a y f :: rest) (ha : key a.ref < n + i) :
    key y.ref = n + i ∧ rd (after ops V) y = f (rd (after ops V) a) := by
  obtain ⟨hk, e⟩ := h.target V hop (StableHlo.unary_writes ..)
  refine ⟨hk, ?_⟩
  rw [rd, e, StableHlo.unary_result, TRef.ofBuf_toBuf, h.source V i ha, rd]

theorem Rising.binary (i : ℕ) {a : TRef sig Ta} {b : TRef sig Tb} {y : TRef sig T}
    {f : Ta.Contents Val → Tb.Contents Val → T.Contents Val}
    (hop : ops.drop i = TRef.binary a b y f :: rest) (ha : key a.ref < n + i) (hb : key b.ref < n + i) :
    key y.ref = n + i ∧ rd (after ops V) y = f (rd (after ops V) a) (rd (after ops V) b) := by
  obtain ⟨hk, e⟩ := h.target V hop (StableHlo.binary_writes ..)
  refine ⟨hk, ?_⟩
  rw [rd, e, StableHlo.binary_result, TRef.ofBuf_toBuf, h.source V i ha, h.source V i hb, rd, rd]

theorem Rising.quaternary (i : ℕ) {a : TRef sig Ta} {b : TRef sig Tb} {c : TRef sig Tc} {e : TRef sig Te} {y : TRef sig T}
    {f : Ta.Contents Val → Tb.Contents Val → Tc.Contents Val → Te.Contents Val → T.Contents Val}
    (hop : ops.drop i = TRef.quaternary a b c e y f :: rest) (ha : key a.ref < n + i) (hb : key b.ref < n + i)
    (hc : key c.ref < n + i) (he : key e.ref < n + i) :
    key y.ref = n + i ∧ rd (after ops V) y
      = f (rd (after ops V) a) (rd (after ops V) b) (rd (after ops V) c) (rd (after ops V) e) := by
  obtain ⟨hk, e⟩ := h.target V hop (StableHlo.quaternary_writes ..)
  refine ⟨hk, ?_⟩
  rw [rd, e, StableHlo.quaternary_result, TRef.ofBuf_toBuf, h.source V i ha, h.source V i hb, h.source V i hc, h.source V i he,
    rd, rd, rd, rd]

theorem Rising.reshape (i : ℕ) {a : TRef sig Ta} {y : TRef sig T} {he : Ta.elt = T.elt} {hn : Ta.shape.ShapeCasts T.shape}
    (hop : ops.drop i = TRef.reshape a y he hn :: rest) (ha : key a.ref < n + i) :
    key y.ref = n + i ∧ rd (after ops V) y = fun j => he ▸ shapeCast T.shape (rd (after ops V) a) hn j := by
  obtain ⟨hk, e⟩ := h.target V hop (StableHlo.reshape_writes ..)
  refine ⟨hk, ?_⟩
  rw [rd, e, StableHlo.reshape_result, h.source V i ha, rd]
  obtain ⟨a, rfl, _, _⟩ := a
  obtain ⟨y, rfl, _, _⟩ := y
  rfl

end Builders

end Cert.HostLine

end
-- ==== Proof.ReferenceLine.lean ====
/- The reference as one line of array operations: the operations read off its functions, and its run. -/
module

public import proofs.«01_k».proof.Proof.HostLine
public import proofs.«01_k».proof.Proof.Gen.ReferenceIdeal
public import Idealize.ShloMosaic.Lib.StableHlo.RunHlo

@[expose] public section

noncomputable section

namespace Cert.ReferenceIdeal.Hand

open Cert.ReferenceIdeal Cert.ReferenceIdeal.Gen
open Idealize.ShloMosaic Idealize.ShloMosaic.StableHlo Idealize.SL.Sem

variable {F : FTy → Type} [FloatOps F]

/-- A program that is a line of operations. -/
abbrev Line (p : Prog (TpuEff nD τ sig (Elt F) (Pipeline.Sig Λ₀ (Fin 0) fun p => (pcfgs (F := F) p).Adm) .tc) PUnit) : Type :=
  {ops : List (HloOp τ sig (Elt F)) // IsSeq p ops}

/-- Two lines one after the other are their concatenation. -/
theorem IsSeq.then {p k : Prog (TpuEff nD τ sig (Elt F) (Pipeline.Sig Λ₀ (Fin 0) fun p => (pcfgs (F := F) p).Adm) .tc) PUnit}
    {l l' : List (HloOp τ sig (Elt F))} (hp : IsSeq p l) (hk : IsSeq k l') : IsSeq (p >>= fun _ => k) (l ++ l') := by
  unfold IsSeq at hp hk ⊢
  rw [hp, hk, seq_append]

section Hash

variable (a b : TRef sig ⟨S_, .i32⟩) (x y : TRef sig ⟨S64x100000, .i32⟩) (φ : fn_threefry2x32.Bufs)

def hash0 : Line (F := F) (fn_threefry2x32.body_part0 a b x y φ) := by
  apply Subtype.mk; unfold fn_threefry2x32.body_part0; hlo_seq
def hash1 : Line (F := F) (fn_threefry2x32.body_part1 a b x y φ) := by
  apply Subtype.mk; unfold fn_threefry2x32.body_part1; hlo_seq
def hash2 : Line (F := F) (fn_threefry2x32.body_part2 a b x y φ) := by
  apply Subtype.mk; unfold fn_threefry2x32.body_part2; hlo_seq
def hash3 : Line (F := F) (fn_threefry2x32.body_part3 a b x y φ) := by
  apply Subtype.mk; unfold fn_threefry2x32.body_part3; hlo_seq

/-- The operations of the hash. -/
def hash : Line (F := F) (fn_threefry2x32.body a b x y φ) :=
  ⟨(hash0 a b x y φ).1 ++ ((hash1 a b x y φ).1 ++ ((hash2 a b x y φ).1 ++ (hash3 a b x y φ).1)),
    IsSeq.then (hash0 a b x y φ).2 (IsSeq.then (hash1 a b x y φ).2 (IsSeq.then (hash2 a b x y φ).2 (hash3 a b x y φ).2))⟩

end Hash

/-- The operations of the uniform draw. -/
def uniform (a : TRef sig ⟨S2, .i32⟩) (lo hi : TRef sig ⟨S_, .f32⟩) (φ : fn_uniform.Bufs) :
    Line (F := F) (fn_uniform.body a lo hi φ) := by
  apply Subtype.mk; unfold fn_uniform.body
  repeat first | with_reducible apply IsSeq.then (hash _ _ _ _ _).2 | apply IsSeq.cons | exact IsSeq.nil

/-- The operations of the Gumbel draw. -/
def gumbel (a : TRef sig ⟨S2, .i32⟩) (φ : fn_gumbel.Bufs) : Line (F := F) (fn_gumbel.body a φ) := by
  apply Subtype.mk; unfold fn_gumbel.body
  repeat first | with_reducible apply IsSeq.then (uniform _ _ _ _).2 | apply IsSeq.cons | exact IsSeq.nil

/-- The operations of the argmax. -/
def argmax (a : TRef sig ⟨S64x100000, .f32⟩) (φ : fn_argmax.Bufs) : Line (F := F) (fn_argmax.body a φ) := by
  apply Subtype.mk; unfold fn_argmax.body; hlo_seq

/-- The operations of the one-hot rows. -/
def oneHot (a : TRef sig ⟨S64, .i32⟩) (φ : fn_one_hot.Bufs) : Line (F := F) (fn_one_hot.body a φ) := by
  apply Subtype.mk; unfold fn_one_hot.body; hlo_seq

/-- The reference's operations, in order. -/
def whole (d : Dev nD) : Line (F := F) (main d) := by
  apply Subtype.mk; unfold main
  repeat first
    | with_reducible apply IsSeq.then (gumbel _ _).2 | with_reducible apply IsSeq.then (argmax _ _).2 | with_reducible apply IsSeq.then (oneHot _ _).2
    | apply IsSeq.cons | exact IsSeq.nil

/-- The reference's operations, in order, as a list. -/
abbrev ops : List (HloOp τ sig (Elt F)) := (whole 0).1

/-- The buffers they write, in order: every buffer but the argument's. -/
def written : List (Ref sig .tc) := (List.finRange 308).map fun k => ⟨.hbm, k.succ, rfl⟩

theorem writes_eq : (ops : List (HloOp τ sig (Elt F))).map HloOp.writes
    = written.map fun w => {Proc.devRef (τ := τ) .tc w} := rfl

theorem fresh_eq : (ops : List (HloOp τ sig (Elt F))).map HloOp.fresh
    = (ops : List (HloOp τ sig (Elt F))).map fun _ => (∅ : Finset (DevRef τ sig)) := rfl

/-- Operation `i` writes buffer `i + 1`. -/
theorem rising : HostLine.Rising 1 (ops : List (HloOp τ sig (Elt F))) :=
  .of_list written writes_eq (by decide +kernel)

/-- The program has only buffers that its one thread names. -/
theorem named : (b : DevRef τ sig) → b ∈ tcRefs τ sig
  | ⟨.hbm, i, _⟩ => devRef_mem_tcRefs (⟨.hbm, i, rfl⟩ : Ref sig .tc)
  | ⟨.host, i, _⟩ => absurd i.isLt (Nat.not_lt_zero _)
  | ⟨.shared, i, _⟩ => absurd i.isLt (Nat.not_lt_zero _)
  | ⟨.local κ cs, i, _⟩ => absurd i.isLt (by cases κ <;> cases cs <;> exact Nat.not_lt_zero _)

theorem touches : (ops : List (HloOp τ sig (Elt F))).Forall fun op => op.bufs ⊆ tcRefs τ sig :=
  List.forall_iff_forall_mem.mpr fun _ _ b _ => named b

variable (m : (ℓ : Loc nD τ sig) → Buf (Elt F) ℓ) (ρ : Dev nD → PrngReg)

/-- What the buffers hold at the end. -/
def final (d : Dev nD) : Valuation τ sig (Elt F) := after ops (launchContents m d)

/-- The reference runs to `final`. -/
theorem run : θ_run defs (onTc main) ⟨m, fun _ => 0, ρ⟩ fun r =>
    ∀ (d : Dev nD) (b : Ref sig .tc), r.2.mem ((d.tc : Thread nD τ).loc b) = final m d (Proc.devRef .tc b) :=
  run_hlo defs main (ops := ops) (fun d => by rw [Fin.fin_one_eq_zero d]; exact (whole 0).2) (by decide) (by decide) touches
    (List.forall_iff_forall_mem.mp (forall_fresh_of_map fresh_eq)) m ρ

/-- The argument is where it was. -/
theorem final_arg (d : Dev nD) : final m d (Proc.devRef .tc main_arg0) = m ((d.tc : Thread nD τ).loc main_arg0) :=
  HostLine.Rising.keeps_below (launchContents m d) rising (r := main_arg0) (by decide)

/-- The reference runs to the end, leaves its argument alone and every counter at zero. -/
theorem run_frame : θ_run defs (onTc main) ⟨m, fun _ => 0, ρ⟩ fun r =>
    (∀ c : Dev nD, r.2.mem ((c.tc : Thread nD τ).loc main_arg0) = m ((c.tc : Thread nD τ).loc main_arg0))
      ∧ r.2.sem = fun _ => 0 :=
  (θ_run defs _ _).mono (fun r h => ⟨fun c => (h c main_arg0).trans (final_arg m c), sem_eq_zero_of_no_sems rfl _⟩) (run m ρ)

end Cert.ReferenceIdeal.Hand

end
-- ==== Proof.HashLine.lean ====
/- Pieces of a line of array operations that come again and again in the counter hash: an operation with a broadcast
   scalar, and one round of the hash. Each is read off lane by lane. -/
module

public import proofs.«01_k».proof.Proof.HostLine
public import Idealize.ShloMosaic.PureOps.Vector
public import Idealize.ShloMosaic.PureOps.ShapeOps

@[expose] public section

noncomputable section

namespace Cert.HostLine

open Idealize.ShloMosaic Idealize.ShloMosaic.StableHlo

/-- One round of the hash on a pair of words: add, rotate by `k` (`k'` is `32 - k`), exclusive or. -/
def mix (k k' : BitVec 32) (p : BitVec 32 × BitVec 32) : BitVec 32 × BitVec 32 :=
  (IntOp.addi p.1 p.2, IntOp.xori (IntOp.addi p.1 p.2) (IntOp.ori (IntOp.shli .host p.2 k) (IntOp.shrui .host p.2 k')))

/-- The rounds of an even group. -/
def mixEven (p : BitVec 32 × BitVec 32) : BitVec 32 × BitVec 32 := mix 6 26 (mix 26 6 (mix 15 17 (mix 13 19 p)))
/-- The rounds of an odd group. -/
def mixOdd (p : BitVec 32 × BitVec 32) : BitVec 32 × BitVec 32 := mix 24 8 (mix 16 16 (mix 29 3 (mix 17 15 p)))
/-- Two words added to a pair. -/
def inject (a b : BitVec 32) (p : BitVec 32 × BitVec 32) : BitVec 32 × BitVec 32 := (IntOp.addi p.1 a, IntOp.addi p.2 b)

/-- The hash of a pair of counters under the key 0, 42, whose third word is 466689008. -/
def hashWord (p : BitVec 32 × BitVec 32) : BitVec 32 :=
  let q := inject 466689008 5 (mixEven (inject 42 466689012 (mixOdd (inject 0 45 (mixEven (inject 466689008 2
    (mixOdd (inject 42 466689009 (mixEven (inject 0 42 p))))))))))
  IntOp.xori q.1 q.2

/-- The uniform number drawn from a word: its top 23 bits as a fraction, scaled from [0, 1) to [tiny, 1). -/
def draw {F : FTy → Type} [FloatOps F] (b : BitVec 32) : F .f32 :=
  let one : F .f32 := FloatOps.ofBits .f32 0x3F800000#32
  let tiny : F .f32 := FloatOps.ofBits .f32 0x00800000#32
  FloatOps.maximumf tiny (FloatOps.addf (FloatOps.mulf
    (FloatOps.subf (FloatOps.ofBits .f32 (IntOp.ori (IntOp.shrui .host b 9) 0x3F800000#32)) one) (FloatOps.subf one tiny)) tiny)

variable {τ : Topo} {sig : RefSig} {F : FTy → Type}
variable {n : ℕ} {ops : List (HloOp τ sig (Elt F))} (h : Rising n ops) (V : Valuation τ sig (Elt F))

theorem drop_next {α : Type} {l : List α} {i : ℕ} {a : α} {rest : List α} (h : l.drop i = a :: rest) : l.drop (i + 1) = rest := by
  rw [← List.drop_drop, h]; rfl

/-- What two arrays of words hold at an index. -/
def pair (W : Valuation τ sig (Elt F)) {S : Shape} (x y : TRef sig ⟨S, .i32⟩) (j : S.Idx) : BitVec 32 × BitVec 32 :=
  (rd W x j, rd W y j)

include h

/-- An operation of an array and a scalar constant broadcast. -/
theorem Rising.withConst (i : ℕ) {S S0 : Shape} {e ex e' : EltTy} {dims : Fin S0.rank → Fin S.rank}
    {hb : S0.BroadcastsInDim S dims} {v : (⟨S0, e⟩ : BufTy).Contents (Elt F)}
    {f : (⟨S, ex⟩ : BufTy).Contents (Elt F) → (⟨S, e⟩ : BufTy).Contents (Elt F) → (⟨S, e'⟩ : BufTy).Contents (Elt F)}
    (x : TRef sig ⟨S, ex⟩) (c : TRef sig ⟨S0, e⟩) (b : TRef sig ⟨S, e⟩) (y : TRef sig ⟨S, e'⟩)
    {rest : List (HloOp τ sig (Elt F))}
    (hop : ops.drop i = TRef.nullary c v :: TRef.unary c b (broadcastInDim S dims hb) :: TRef.binary x b y f :: rest)
    (hx : key x.ref < n + (i + 2)) :
    rd (after ops V) y = f (rd (after ops V) x) (broadcastInDim S dims hb v) := by
  obtain ⟨k1, e1⟩ := h.nullary V i hop
  have h2 := drop_next hop
  obtain ⟨k2, e2⟩ := h.unary V (i + 1) h2 (by omega)
  have h3 := drop_next h2
  obtain ⟨k3, e3⟩ := h.binary V (i + 2) h3 hx (by omega)
  rw [e3, e2, e1]

/-- An operation of an array and a scalar array broadcast. -/
theorem Rising.withScalar (i : ℕ) {S S0 : Shape} {e ex e' : EltTy} {dims : Fin S0.rank → Fin S.rank}
    {hb : S0.BroadcastsInDim S dims}
    {f : (⟨S, ex⟩ : BufTy).Contents (Elt F) → (⟨S, e⟩ : BufTy).Contents (Elt F) → (⟨S, e'⟩ : BufTy).Contents (Elt F)}
    (x : TRef sig ⟨S, ex⟩) (c : TRef sig ⟨S0, e⟩) (b : TRef sig ⟨S, e⟩) (y : TRef sig ⟨S, e'⟩)
    {rest : List (HloOp τ sig (Elt F))}
    (hop : ops.drop i = TRef.unary c b (broadcastInDim S dims hb) :: TRef.binary x b y f :: rest)
    (hc : key c.ref < n + i) (hx : key x.ref < n + (i + 1)) :
    rd (after ops V) y = f (rd (after ops V) x) (broadcastInDim S dims hb (rd (after ops V) c)) := by
  obtain ⟨k2, e2⟩ := h.unary V i hop hc
  have h3 := drop_next hop
  obtain ⟨k3, e3⟩ := h.binary V (i + 1) h3 hx (by omega)
  rw [e3, e2]

/-- One round of the hash, in nine operations. -/
theorem Rising.round (i : ℕ) {S S0 : Shape} {dims : Fin S0.rank → Fin S.rank} {hb : S0.BroadcastsInDim S dims} {k k' : BitVec 32}
    (x0 x1 y0 : TRef sig ⟨S, .i32⟩) (c : TRef sig ⟨S0, .i32⟩) (b s : TRef sig ⟨S, .i32⟩) (c' : TRef sig ⟨S0, .i32⟩)
    (b' s' o y1 : TRef sig ⟨S, .i32⟩) {rest : List (HloOp τ sig (Elt F))}
    (hop : ops.drop i = TRef.binary x0 x1 y0 addi
      :: TRef.nullary c (constantI S0 32 k) :: TRef.unary c b (broadcastInDim S dims hb) :: TRef.binary x1 b s Host.shli
      :: TRef.nullary c' (constantI S0 32 k') :: TRef.unary c' b' (broadcastInDim S dims hb) :: TRef.binary x1 b' s' Host.shrui
      :: TRef.binary s s' o ori :: TRef.binary y0 o y1 xori :: rest)
    (hx0 : key x0.ref < n + i) (hx1 : key x1.ref < n + i) (j : S.Idx) :
    pair (after ops V) y0 y1 j = mix k k' (pair (after ops V) x0 x1 j) := by
  have d1 := drop_next hop
  have d2 := drop_next d1
  have d3 := drop_next d2
  have d4 := drop_next d3
  have d5 := drop_next d4
  have d6 := drop_next d5
  have d7 := drop_next d6
  have d8 := drop_next d7
  obtain ⟨k0, e0⟩ := h.binary V i hop hx0 hx1
  have e1 := h.withConst V (i + 1) x1 c b s d1 (by omega)
  have e2 := h.withConst V (i + 1 + 1 + 1 + 1) x1 c' b' s' d4 (by omega)
  obtain ⟨k1, -⟩ := h.target V d3 (StableHlo.binary_writes ..)
  obtain ⟨k2, -⟩ := h.target V d6 (StableHlo.binary_writes ..)
  obtain ⟨k3, e3⟩ := h.binary V _ d7 (by omega) (by omega)
  obtain ⟨-, e4⟩ := h.binary V _ d8 (by omega) (by omega)
  unfold pair mix
  rw [e4, e3, e2, e1, e0]
  rfl

/-- A word added to each array of a pair, in six operations. -/
theorem Rising.inject (i : ℕ) {S S0 : Shape} {dims : Fin S0.rank → Fin S.rank} {hb : S0.BroadcastsInDim S dims} {k k' : BitVec 32}
    (x0 x1 : TRef sig ⟨S, .i32⟩) (c : TRef sig ⟨S0, .i32⟩) (b y0 : TRef sig ⟨S, .i32⟩) (c' : TRef sig ⟨S0, .i32⟩)
    (b' y1 : TRef sig ⟨S, .i32⟩) {rest : List (HloOp τ sig (Elt F))}
    (hop : ops.drop i = TRef.nullary c (constantI S0 32 k) :: TRef.unary c b (broadcastInDim S dims hb) :: TRef.binary x0 b y0 addi
      :: TRef.nullary c' (constantI S0 32 k') :: TRef.unary c' b' (broadcastInDim S dims hb) :: TRef.binary x1 b' y1 addi :: rest)
    (hx0 : key x0.ref < n + i) (hx1 : key x1.ref < n + i) (j : S.Idx) :
    pair (after ops V) y0 y1 j = HostLine.inject k k' (pair (after ops V) x0 x1 j) := by
  have e1 := h.withConst V i x0 c b y0 hop (by omega)
  have e2 := h.withConst V (i + 1 + 1 + 1) x1 c' b' y1 (drop_next (drop_next (drop_next hop))) (by omega)
  unfold pair HostLine.inject
  rw [e1, e2]
  rfl

/-- A key word added to each array of a pair, then a constant to the second, in seven operations. -/
theorem Rising.injectKey (i : ℕ) {S S0 : Shape} {dims : Fin S0.rank → Fin S.rank} {hb : S0.BroadcastsInDim S dims}
    {a a' k : BitVec 32} (x0 x1 : TRef sig ⟨S, .i32⟩) (c c' : TRef sig ⟨S0, .i32⟩) (b y0 b' t : TRef sig ⟨S, .i32⟩)
    (c'' : TRef sig ⟨S0, .i32⟩) (b'' y1 : TRef sig ⟨S, .i32⟩) {rest : List (HloOp τ sig (Elt F))}
    (hop : ops.drop i = TRef.unary c b (broadcastInDim S dims hb) :: TRef.binary x0 b y0 addi
      :: TRef.unary c' b' (broadcastInDim S dims hb) :: TRef.binary x1 b' t addi
      :: TRef.nullary c'' (constantI S0 32 k) :: TRef.unary c'' b'' (broadcastInDim S dims hb) :: TRef.binary t b'' y1 addi :: rest)
    (hx0 : key x0.ref < n + i) (hx1 : key x1.ref < n + i) (hc : key c.ref < n + i) (hc' : key c'.ref < n + i)
    (ha : rd (after ops V) c = fun _ => a) (ha' : rd (after ops V) c' = fun _ => a') (j : S.Idx) :
    pair (after ops V) y0 y1 j = HostLine.inject a (a' + k) (pair (after ops V) x0 x1 j) := by
  have d2 := drop_next (drop_next hop)
  have d4 := drop_next (drop_next d2)
  have e1 := h.withScalar V i x0 c b y0 hop hc (by omega)
  have e2 := h.withScalar V (i + 1 + 1) x1 c' b' t d2 (by omega) (by omega)
  obtain ⟨k2, -⟩ := h.target V (drop_next d2) (StableHlo.binary_writes ..)
  have e3 := h.withConst V (i + 1 + 1 + 1 + 1) t c'' b'' y1 d4 (by omega)
  unfold pair HostLine.inject
  rw [e3, e1, e2, ha, ha']
  exact Prod.ext rfl (BitVec.add_assoc _ _ _)

end Cert.HostLine

end
-- ==== Proof.KernelHash.lean ====
/- The kernel's uniform table: the words of the counter hash, read off the host operations before the first launch. -/
module

public import proofs.«01_k».proof.Proof.HashLine
public import proofs.«01_k».proof.Proof.Gen.KernelIdeal.Regions
public import Idealize.ShloMosaic.Lib.Pipeline.Value

@[expose] public section

noncomputable section

namespace Cert.KernelIdeal.Hand

open Cert.KernelIdeal Cert.KernelIdeal.Gen
open Idealize.ShloMosaic Idealize.ShloMosaic.StableHlo
open Cert.HostLine

variable {F : FTy → Type} [FloatOps F]

/-- Host operation `i` writes buffer `i + 1`. -/
theorem rising : Rising 1 (hostOps0 : List (HloOp τ sig (Elt F))) := .of_list hostOps0_W rfl (by decide +kernel)

/-- Buffer `k`, of words. -/
abbrev w (k : Fin (sig.nBuf .hbm)) (ht : sig.ty .hbm k = ⟨S6400000, .i32⟩ := by rfl) (hu : sig.isScoped .hbm k = false := by rfl) :
    TRef sig ⟨S6400000, .i32⟩ := ⟨⟨.hbm, k, rfl⟩, ht, nofun, hu⟩
/-- Buffer `k`, of one word. -/
abbrev s (k : Fin (sig.nBuf .hbm)) (ht : sig.ty .hbm k = ⟨S_, .i32⟩ := by rfl) (hu : sig.isScoped .hbm k = false := by rfl) :
    TRef sig ⟨S_, .i32⟩ := ⟨⟨.hbm, k, rfl⟩, ht, nofun, hu⟩

variable (V : Valuation τ sig (Elt F)) (j : S6400000.Idx)

local notation "after0" => after (hostOps0 : List (HloOp τ sig (Elt F)))

theorem bcast : S_.BroadcastsInDim S6400000 ![] := bcast_S_S6400000

theorem inject0 : pair (after0 V) (w 6) (w 9) j = inject 0 42 (pair (after0 V) (w 2) (w 3) j) :=
  rising.inject V 3 (hb := bcast) (w 2) (w 3) (s 4) (w 5) (w 6) (s 7) (w 8) (w 9) rfl (by decide) (by decide) j

theorem group1 : pair (after0 V) (w 37) (w 45) j = mixEven (pair (after0 V) (w 6) (w 9) j) := by
  rw [rising.round V 36 (hb := bcast) (w 28) (w 36) (w 37) (s 38) (w 39) (w 40) (s 41) (w 42) (w 43) (w 44) (w 45) rfl (by decide) (by decide) j,
    rising.round V 27 (hb := bcast) (w 19) (w 27) (w 28) (s 29) (w 30) (w 31) (s 32) (w 33) (w 34) (w 35) (w 36) rfl (by decide) (by decide) j,
    rising.round V 18 (hb := bcast) (w 10) (w 18) (w 19) (s 20) (w 21) (w 22) (s 23) (w 24) (w 25) (w 26) (w 27) rfl (by decide) (by decide) j,
    rising.round V 9 (hb := bcast) (w 6) (w 9) (w 10) (s 11) (w 12) (w 13) (s 14) (w 15) (w 16) (w 17) (w 18) rfl (by decide) (by decide) j]
  rfl

theorem inject1 : pair (after0 V) (w 48) (w 51) j = inject 42 466689009 (pair (after0 V) (w 37) (w 45) j) :=
  rising.inject V 45 (hb := bcast) (w 37) (w 45) (s 46) (w 47) (w 48) (s 49) (w 50) (w 51) rfl (by decide) (by decide) j

theorem group2 : pair (after0 V) (w 79) (w 87) j = mixOdd (pair (after0 V) (w 48) (w 51) j) := by
  rw [rising.round V 78 (hb := bcast) (w 70) (w 78) (w 79) (s 80) (w 81) (w 82) (s 83) (w 84) (w 85) (w 86) (w 87) rfl (by decide) (by decide) j,
    rising.round V 69 (hb := bcast) (w 61) (w 69) (w 70) (s 71) (w 72) (w 73) (s 74) (w 75) (w 76) (w 77) (w 78) rfl (by decide) (by decide) j,
    rising.round V 60 (hb := bcast) (w 52) (w 60) (w 61) (s 62) (w 63) (w 64) (s 65) (w 66) (w 67) (w 68) (w 69) rfl (by decide) (by decide) j,
    rising.round V 51 (hb := bcast) (w 48) (w 51) (w 52) (s 53) (w 54) (w 55) (s 56) (w 57) (w 58) (w 59) (w 60) rfl (by decide) (by decide) j]
  rfl

theorem inject2 : pair (after0 V) (w 90) (w 93) j = inject 466689008 2 (pair (after0 V) (w 79) (w 87) j) :=
  rising.inject V 87 (hb := bcast) (w 79) (w 87) (s 88) (w 89) (w 90) (s 91) (w 92) (w 93) rfl (by decide) (by decide) j

theorem group3 : pair (after0 V) (w 121) (w 129) j = mixEven (pair (after0 V) (w 90) (w 93) j) := by
  rw [rising.round V 120 (hb := bcast) (w 112) (w 120) (w 121) (s 122) (w 123) (w 124) (s 125) (w 126) (w 127) (w 128) (w 129) rfl (by decide) (by decide) j,
    rising.round V 111 (hb := bcast) (w 103) (w 111) (w 112) (s 113) (w 114) (w 115) (s 116) (w 117) (w 118) (w 119) (w 120) rfl (by decide) (by decide) j,
    rising.round V 102 (hb := bcast) (w 94) (w 102) (w 103) (s 104) (w 105) (w 106) (s 107) (w 108) (w 109) (w 110) (w 111) rfl (by decide) (by decide) j,
    rising.round V 93 (hb := bcast) (w 90) (w 93) (w 94) (s 95) (w 96) (w 97) (s 98) (w 99) (w 100) (w 101) (w 102) rfl (by decide) (by decide) j]
  rfl

theorem inject3 : pair (after0 V) (w 132) (w 135) j = inject 0 45 (pair (after0 V) (w 121) (w 129) j) :=
  rising.inject V 129 (hb := bcast) (w 121) (w 129) (s 130) (w 131) (w 132) (s 133) (w 134) (w 135) rfl (by decide) (by decide) j

theorem group4 : pair (after0 V) (w 163) (w 171) j = mixOdd (pair (after0 V) (w 132) (w 135) j) := by
  rw [rising.round V 162 (hb := bcast) (w 154) (w 162) (w 163) (s 164) (w 165) (w 166) (s 167) (w 168) (w 169) (w 170) (w 171) rfl (by decide) (by decide) j,
    rising.round V 153 (hb := bcast) (w 145) (w 153) (w 154) (s 155) (w 156) (w 157) (s 158) (w 159) (w 160) (w 161) (w 162) rfl (by decide) (by decide) j,
    rising.round V 144 (hb := bcast) (w 136) (w 144) (w 145) (s 146) (w 147) (w 148) (s 149) (w 150) (w 151) (w 152) (w 153) rfl (by decide) (by decide) j,
    rising.round V 135 (hb := bcast) (w 132) (w 135) (w 136) (s 137) (w 138) (w 139) (s 140) (w 141) (w 142) (w 143) (w 144) rfl (by decide) (by decide) j]
  rfl

theorem inject4 : pair (after0 V) (w 174) (w 177) j = inject 42 466689012 (pair (after0 V) (w 163) (w 171) j) :=
  rising.inject V 171 (hb := bcast) (w 163) (w 171) (s 172) (w 173) (w 174) (s 175) (w 176) (w 177) rfl (by decide) (by decide) j

theorem group5 : pair (after0 V) (w 205) (w 213) j = mixEven (pair (after0 V) (w 174) (w 177) j) := by
  rw [rising.round V 204 (hb := bcast) (w 196) (w 204) (w 205) (s 206) (w 207) (w 208) (s 209) (w 210) (w 211) (w 212) (w 213) rfl (by decide) (by decide) j,
    rising.round V 195 (hb := bcast) (w 187) (w 195) (w 196) (s 197) (w 198) (w 199) (s 200) (w 201) (w 202) (w 203) (w 204) rfl (by decide) (by decide) j,
    rising.round V 186 (hb := bcast) (w 178) (w 186) (w 187) (s 188) (w 189) (w 190) (s 191) (w 192) (w 193) (w 194) (w 195) rfl (by decide) (by decide) j,
    rising.round V 177 (hb := bcast) (w 174) (w 177) (w 178) (s 179) (w 180) (w 181) (s 182) (w 183) (w 184) (w 185) (w 186) rfl (by decide) (by decide) j]
  rfl

theorem inject5 : pair (after0 V) (w 216) (w 219) j = inject 466689008 5 (pair (after0 V) (w 205) (w 213) j) :=
  rising.inject V 213 (hb := bcast) (w 205) (w 213) (s 214) (w 215) (w 216) (s 217) (w 218) (w 219) rfl (by decide) (by decide) j

/-- Every word of the table is the hash of the pair 0, its index. -/
theorem bits_at : rd (after0 V) (w 220) j = hashWord (0, BitVec.ofNat 32 (j 0).val) := by
  have e := (rising.binary V 219 (a := w 216) (b := w 219) (y := w 220) (f := xori) rfl (by decide) (by decide)).2
  obtain ⟨-, z⟩ := rising.unary V 1 (a := s 1) (y := w 2) (f := broadcastInDim S6400000 ![] bcast) rfl (by decide)
  obtain ⟨-, z'⟩ := rising.nullary V 0 (y := s 1) (v := constantI S_ 32 0#32) rfl
  obtain ⟨-, t⟩ := rising.nullary V 2 (y := w 3) (v := iotaInDim S6400000 32 0) rfl
  have p : pair (after0 V) (w 2) (w 3) j = (0, BitVec.ofNat 32 (j 0).val) := by
    unfold pair; rw [z, z', t]; rfl
  have q := inject5 V j
  rw [group5, inject4, group4, inject3, group3, inject2, group2, inject1, group1, inject0, p] at q
  rw [e]
  unfold hashWord
  rw [← q]
  rfl

/-- Buffer `k`, of floats. -/
abbrev fw (k : Fin (sig.nBuf .hbm)) (ht : sig.ty .hbm k = ⟨S6400000, .f32⟩ := by rfl) (hu : sig.isScoped .hbm k = false := by rfl) :
    TRef sig ⟨S6400000, .f32⟩ := ⟨⟨.hbm, k, rfl⟩, ht, nofun, hu⟩
/-- Buffer `k`, of one float. -/
abbrev fs (k : Fin (sig.nBuf .hbm)) (ht : sig.ty .hbm k = ⟨S_, .f32⟩ := by rfl) (hu : sig.isScoped .hbm k = false := by rfl) :
    TRef sig ⟨S_, .f32⟩ := ⟨⟨.hbm, k, rfl⟩, ht, nofun, hu⟩

/-- Every number of the table is drawn from its word. -/
theorem draw_at : rd (after0 V) (fw 241) j = draw (rd (after0 V) (w 220) j) := by
  have a1 := rising.withConst V 220 (hb := bcast) (w 220) (s 221) (w 222) (w 223) (f := Host.shrui) rfl (by decide)
  have a2 := rising.withConst V 223 (hb := bcast) (w 223) (s 224) (w 225) (w 226) (f := ori) rfl (by decide)
  obtain ⟨-, a3⟩ := rising.unary V 226 (a := w 226) (y := fw 227) (f := bitcastToFloat .f32) rfl (by decide)
  have a4 := rising.withConst V 227 (hb := bcast) (fw 227) (fs 228) (fw 229) (fw 230) (f := subf) rfl (by decide)
  obtain ⟨-, a5⟩ := rising.nullary V 230 (y := fs 231) (v := constant S_ .f32 0x3F800000#32) rfl
  obtain ⟨-, a6⟩ := rising.nullary V 231 (y := fs 232) (v := constant S_ .f32 0x00800000#32) rfl
  obtain ⟨-, a7⟩ := rising.binary V 232 (a := fs 231) (b := fs 232) (y := fs 233) (f := subf) rfl (by decide) (by decide)
  have a8 := rising.withScalar V 233 (hb := bcast) (fw 230) (fs 233) (fw 234) (fw 235) (f := mulf) rfl (by decide) (by decide)
  have a9 := rising.withConst V 235 (hb := bcast) (fw 235) (fs 236) (fw 237) (fw 238) (f := addf) rfl (by decide)
  obtain ⟨-, b1⟩ := rising.nullary V 238 (y := fs 239) (v := constant S_ .f32 0x00800000#32) rfl
  obtain ⟨-, b2⟩ := rising.unary V 239 (a := fs 239) (y := fw 240) (f := broadcastInDim S6400000 ![] bcast) rfl (by decide)
  obtain ⟨-, b3⟩ := rising.binary V 240 (a := fw 240) (b := fw 238) (y := fw 241) (f := maximumf) rfl (by decide) (by decide)
  rw [b3, b2, b1, a9, a8, a7, a6, a5, a4, a3, a2, a1]
  rfl

/-- The table by rows and columns: number (r, c) is drawn from the hash of 0 and 100000 r + c. -/
theorem table_at (i : S64x100000.Idx) :
    after0 V (Proc.devRef .tc main_v181) i = (draw (hashWord (0, BitVec.ofNat 32 ((i 0).val * 100000 + (i 1).val))) : F .f32) := by
  obtain ⟨-, e⟩ := rising.reshape V 241 (a := fw 241) (y := (.of main_v181 : TRef sig ⟨S64x100000, .f32⟩)) (he := rfl)
    (hn := shapeCasts_S6400000_S64x100000) rfl (by decide)
  have h0 : (i 0).val < 64 := (i 0).isLt
  have h1 : (i 1).val < 100000 := (i 1).isLt
  have e' : after0 V (Proc.devRef .tc main_v181) i = shapeCast S64x100000 (rd (after0 V) (fw 241)) shapeCasts_S6400000_S64x100000 i :=
    congrFun e i
  let k : S6400000.Idx := fun a => ⟨(i 0).val * 100000 + (i 1).val, by
    obtain rfl : a = 0 := Subsingleton.elim _ _
    show _ < 6400000
    omega⟩
  have hk : (S6400000.rowMajor k).val = (S64x100000.rowMajor i).val := by
    rw [Shape.rowMajor_val_one, Shape.rowMajor_val_two]
    rfl
  rw [e', Idealize.ShloMosaic.shapeCast_apply _ _ i k hk, draw_at, bits_at]

end Cert.KernelIdeal.Hand

end
-- ==== Proof.FirstMax.lean ====
/- The first place where a row of scores is largest, and how a running first maximum moves on by a block. -/
module

public import Mathlib.Data.EReal.Basic

@[expose] public section

namespace Cert.FirstMax

/-- k is the first of the places 0, …, N − 1 where S is largest. -/
def IsFirstMax (S : ℕ → EReal) (N k : ℕ) : Prop := k < N ∧ (∀ c < N, S c ≤ S k) ∧ ∀ c < k, S c < S k

variable {S : ℕ → EReal} {N B k q : ℕ}

/-- There is only one first maximum. -/
theorem IsFirstMax.unique (h : IsFirstMax S N k) (h' : IsFirstMax S N q) : k = q := by
  rcases Nat.lt_trichotomy k q with hlt | rfl | hlt
  · exact absurd (h.2.1 q h'.1) (not_le.mpr (h'.2.2 k hlt))
  · rfl
  · exact absurd (h'.2.1 k h.1) (not_le.mpr (h.2.2 q hlt))

/-- A block whose maximum is larger than the running one moves the first maximum into the block. -/
theorem IsFirstMax.move (h : IsFirstMax S N k) (hb : IsFirstMax (fun j => S (N + j)) B q) (hlt : S k < S (N + q)) :
    IsFirstMax S (N + B) (N + q) := by
  refine ⟨by have := hb.1; omega, fun c hc => ?_, fun c hc => ?_⟩
  · by_cases hN : c < N
    · exact (h.2.1 c hN).trans hlt.le
    · have := hb.2.1 (c - N) (by omega)
      simpa only [Nat.add_sub_cancel' (Nat.le_of_not_lt hN)] using this
  · by_cases hN : c < N
    · exact (h.2.1 c hN).trans_lt hlt
    · have := hb.2.2 (c - N) (by omega)
      simpa only [Nat.add_sub_cancel' (Nat.le_of_not_lt hN)] using this

/-- A block whose maximum is not larger than the running one leaves the first maximum where it was. -/
theorem IsFirstMax.stay (h : IsFirstMax S N k) (hb : IsFirstMax (fun j => S (N + j)) B q) (hle : S (N + q) ≤ S k) :
    IsFirstMax S (N + B) k := by
  refine ⟨by have := h.1; omega, fun c hc => ?_, h.2.2⟩
  by_cases hN : c < N
  · exact h.2.1 c hN
  · have := (hb.2.1 (c - N) (by omega)).trans hle
    simpa only [Nat.add_sub_cancel' (Nat.le_of_not_lt hN)] using this

/-- Every non-empty row has a first maximum. -/
theorem exists_isFirstMax (S : ℕ → EReal) : ∀ N, ∃ k, IsFirstMax S (N + 1) k
  | 0 => ⟨0, Nat.zero_lt_one, fun c hc => by rw [Nat.lt_one_iff.mp hc], fun c hc => absurd hc (Nat.not_lt_zero c)⟩
  | N + 1 => by
    obtain ⟨k, h⟩ := exists_isFirstMax S N
    have hb : IsFirstMax (fun j => S (N + 1 + j)) 1 0 :=
      ⟨Nat.zero_lt_one, fun c hc => by rw [Nat.lt_one_iff.mp hc], fun c hc => absurd hc (Nat.not_lt_zero c)⟩
    rcases lt_or_ge (S k) (S (N + 1 + 0)) with hlt | hle
    · exact ⟨_, h.move hb hlt⟩
    · exact ⟨_, h.stay hb hle⟩

/-- The first maximum depends only on the scores in range. -/
theorem IsFirstMax.congr {S' : ℕ → EReal} (h : IsFirstMax S N k) (e : ∀ c < N, S c = S' c) : IsFirstMax S' N k :=
  ⟨h.1, fun c hc => by rw [← e c hc, ← e k h.1]; exact h.2.1 c hc,
    fun c hc => by rw [← e c (hc.trans h.1), ← e k h.1]; exact h.2.2 c hc⟩

/-- Scores that rise with the given ones, and agree where they do, have the same first maximum. -/
theorem IsFirstMax.rise {S' : ℕ → EReal} (h : IsFirstMax S N k) (e : ∀ c < N, S c = S k → S' c = S' k)
    (l : ∀ c < N, S c < S k → S' c < S' k) : IsFirstMax S' N k :=
  ⟨h.1, fun c hc => (h.2.1 c hc).lt_or_eq.elim (fun hlt => (l c hc hlt).le) fun he => (e c hc he).le,
    fun c hc => l c (hc.trans h.1) (h.2.2 c hc)⟩

/-- Places of score −∞ after the row do not move the first maximum of a row that has a larger score. -/
theorem IsFirstMax.unpad (h : IsFirstMax S (N + B) k) (hpad : ∀ c, N ≤ c → S c = ⊥) (hsome : ∃ c < N, ⊥ < S c) :
    IsFirstMax S N k := by
  obtain ⟨c, hc, hlt⟩ := hsome
  have hk : k < N := by
    by_contra hk
    exact absurd (hlt.trans_le (h.2.1 c (by omega))) (by rw [hpad k (by omega)]; exact lt_irrefl _)
  exact ⟨hk, fun d hd => h.2.1 d (by omega), h.2.2⟩

end Cert.FirstMax
-- ==== Proof.ScanMax.lean ====
/- What one block of the scan computes on the extended reals: the block's maximum and the first column where it stands. -/
module

public import proofs.«01_k».proof.Proof.ScanBlock
public import proofs.«01_k».proof.Proof.FirstMax
public import Idealize.ShloMosaic.PureOps.Ideal
public import Idealize.ShloMosaic.PureOps.Ideal.Laws
public import Idealize.ShloMosaic.Lib.Pointwise
public import Idealize.ShloMosaic.Lib.Pipeline.Value
public import Idealize.ShloMosaic.Lib.SortNet.Extract

@[expose] public section

noncomputable section

namespace Cert.KernelIdeal.Hand

open Cert.KernelIdeal Cert.KernelIdeal.Gen Cert.FirstMax
open Idealize.ShloMosaic Idealize.ShloMosaic.TcCoe

/-- A row of a column of 64 rows is the same row of the list of them. -/
theorem row_place (r : Fin 64) : (S64.rowMajor (ix1 r)).val = (S64x1.rowMajor (ix2 r 0)).val := by
  rw [Shape.rowMajor_val_one, Shape.rowMajor_val_two]
  exact (Nat.mul_one _).symm

/-- The ordered comparison for equality picks its first branch exactly at equality. -/
theorem select_eq {α : Type} (a b : EReal) (y z : α) :
    Scalar.select (FloatOps.cmpf (F := Ideal) (φ := .f32) .oeq a b) y z = if a = b then y else z := by
  show Scalar.select (BitVec.ofBool (decide (a = b))) y z = _
  by_cases h : a = b
  · rw [if_pos h, decide_eq_true h]; rfl
  · rw [if_neg h, decide_eq_false h]; rfl

/-- The comparison for a larger value picks its first branch exactly when the value is larger. -/
theorem select_gt {α : Type} (a b : EReal) (y z : α) :
    Scalar.select (FloatOps.cmpf (F := Ideal) (φ := .f32) .ogt a b) y z = if b < a then y else z := by
  show Scalar.select (BitVec.ofBool (decide (b < a))) y z = _
  by_cases h : b < a
  · rw [if_pos h, decide_eq_true h]; rfl
  · rw [if_neg h, decide_eq_false h]; rfl

/-- The literal −∞. -/
theorem literal_bot : (FloatOps.ofBits .f32 0xFF800000#32 : Ideal .f32) = (⊥ : EReal) := by
  show Ideal.ofBits .f32 0xFF800000#32 = ⊥
  simp [Ideal.ofBits, Ideal.ieee]

variable (i : grid0.Coords) (u x : Vec Ideal S64x32768 .f32) (r : Fin 64)

/-- A block's scores along one row, by column within the block. -/
def blockScore (j : ℕ) : EReal := if h : j < 32768 then k0_pay2 (F := Ideal) i u x (ix2 r ⟨j, h⟩) else ⊥

theorem blockScore_of (j : Fin 32768) : blockScore i u x r j.val = k0_pay2 (F := Ideal) i u x (ix2 r j) := dif_pos j.isLt

variable {i u x r} {q : ℕ} (hq : IsFirstMax (blockScore i u x r) 32768 q)
include hq

/-- The block's maximum is the score at its first maximal column. -/
theorem block_max : k0_pay3 (F := Ideal) i u x (ix2 r 0) = blockScore i u x r q := by
  have e : k0_pay3 (F := Ideal) i u x (ix2 r 0) = Finset.univ.fold max (FloatOps.ofBits .f32 0xFF800000#32 : Ideal .f32)
      fun k : Fin 32768 => k0_pay2 (F := Ideal) i u x (ix2 r k) := by
    unfold k0_pay3
    rw [Idealize.ShloMosaic.shapeCast_apply _ _ (ix2 r 0) (ix1 r) (row_place r)]
    generalize k0_pay2 (F := Ideal) i u x = s
    simp only [pointwise]
  rw [e, literal_bot]
  apply le_antisymm
  · rw [Finset.fold_max_le]
    refine ⟨bot_le, fun k _ => ?_⟩
    rw [← blockScore_of]
    exact hq.2.1 k.val k.isLt
  · rw [Finset.le_fold_max]
    refine .inr ⟨⟨q, hq.1⟩, Finset.mem_univ _, ?_⟩
    rw [← blockScore_of]

/-- The block's column is the first maximal one. -/
theorem block_col : k0_pay4 (F := Ideal) i u x (ix2 r 0) = BitVec.ofNat 32 ((i 0).val * 32768 + q) := by
  have e : k0_pay4 (F := Ideal) i u x (ix2 r 0) = Finset.univ.fold IntOp.minsi 2147483647#32
      fun k : Fin 32768 => Scalar.select (FloatOps.cmpf .oeq (k0_pay2 (F := Ideal) i u x (ix2 r k)) (blockScore i u x r q))
        (BitVec.ofNat 32 ((i 0).val * 32768 + k.val)) 2147483647#32 := by
    unfold k0_pay4
    refine (Idealize.ShloMosaic.shapeCast_apply _ _ (ix2 r 0) (ix1 r) (row_place r)).trans ?_
    refine (multiReductionI_eq_fold .minsi _ _ _ rfl (ix1 r)).trans ?_
    refine (Shape.Reduces.fold_fiber_r2_a1 _ _ _ _ _).trans (Finset.fold_congr fun k _ => ?_)
    show Scalar.select (FloatOps.cmpf .oeq (k0_pay2 (F := Ideal) i u x (ix2 r k))
      (broadcastTo S64x32768 (k0_pay3 (F := Ideal) i u x) broadcasts_S64x1_S64x32768 (ix2 r k))) (k0_pay1 i (ix2 r k)) 2147483647#32 = _
    rw [cols_at, Idealize.ShloMosaic.broadcastTo_apply _ _ (ix2 r k) (ix2 r 0) (fun a => match a with | 0 => rfl | 1 => rfl), block_max hq]
    rfl
  have hi := coord_lt i
  have hlt := hq.1
  have small : ∀ n : ℕ, n < 131072 → (BitVec.ofNat 32 n).toInt = n := fun n hn => by
    rw [BitVec.toInt_eq_toNat_of_lt] <;> rw [BitVec.toNat_ofNat] <;> omega
  rw [e]
  apply BitVec.eq_of_toInt_eq
  rw [← Finset.fold_hom (m := BitVec.toInt) (op' := min) (op := IntOp.minsi) (fun a b => SortNet.toInt_minsi a b),
    small ((i 0).val * 32768 + q) (by omega)]
  apply le_antisymm
  · rw [Finset.fold_min_le]
    refine .inr ⟨⟨q, hlt⟩, Finset.mem_univ _, ?_⟩
    rw [select_eq, ← blockScore_of, if_pos rfl, small _ (by show (i 0).val * 32768 + q < _; omega)]
  · rw [Finset.le_fold_min]
    refine ⟨?_, fun k _ => ?_⟩
    · rw [show (2147483647#32 : BitVec 32).toInt = 2147483647 by decide]; omega
    · have hk := k.isLt
      rw [select_eq, ← blockScore_of]
      by_cases h : k.val < q
      · rw [if_neg (hq.2.2 k.val h).ne, show (2147483647#32 : BitVec 32).toInt = 2147483647 by decide]; omega
      · split
        · rw [small _ (by omega)]; omega
        · rw [show (2147483647#32 : BitVec 32).toInt = 2147483647 by decide]; omega

end Cert.KernelIdeal.Hand

end
-- ==== Proof.ArrayValue.lean ====
/- What the arrays hold after the two kernels, lane by lane. -/
module

public import proofs.«01_k».proof.Proof.KernelRun
public import Idealize.ShloMosaic.Lib.Pointwise.Index
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F] (V : Dev nD → Valuation τ sig (Elt F)) (c : Dev nD)

/-- The n-th point of the scan's grid has coordinate n. -/
theorem coords_scan (t : Fin cfg0.N) : (grid0.coords t 0).val = t.val := by
  rcases fin_N0 t with rfl | rfl | rfl | rfl <;> decide

/-- The n-th point of the one-hot grid has coordinate n. -/
theorem coords_hot (t : Fin cfg1.N) : (grid1.coords t 0).val = t.val := by
  rcases fin_N1 t with rfl | rfl | rfl | rfl <;> decide

/-- The blocks of the first array stand side by side. -/
theorem index_x (t : Fin cfg0.N) : win0_0.index t 0 = 0 ∧ win0_0.index t 1 = t.val := by
  rcases fin_N0 t with rfl | rfl | rfl | rfl <;> exact ⟨rfl, rfl⟩

/-- The blocks of the table stand side by side. -/
theorem index_u (t : Fin cfg0.N) : win0_1.index t 0 = 0 ∧ win0_1.index t 1 = t.val := by
  rcases fin_N0 t with rfl | rfl | rfl | rfl <;> exact ⟨rfl, rfl⟩

/-- The blocks of the result stand side by side. -/
theorem index_hot (t : Fin cfg1.N) : win1_1.index t 0 = 0 ∧ win1_1.index t 1 = t.val := by
  rcases fin_N1 t with rfl | rfl | rfl | rfl <;> exact ⟨rfl, rfl⟩

/-- The index array is one block. -/
theorem index_i (t : Fin cfg0.N) (a : Fin 2) : win0_2.index t a = 0 := by
  rcases fin_N0 t with rfl | rfl | rfl | rfl <;> match a with
    | 0 => rfl
    | 1 => rfl

/-- The columns' array is one block. -/
theorem index_c (t : Fin cfg1.N) (a : Fin 2) : win1_0.index t a = 0 := by
  rcases fin_N1 t with rfl | rfl | rfl | rfl <;> match a with
    | 0 => rfl
    | 1 => rfl

/-- A block with index 0 starts at 0. -/
theorem block_start {n k : ℕ} (h : n = 0) (i : ℕ) : n * k + i = i := by rw [h, Nat.zero_mul, Nat.zero_add]

/-- A lane of a block of the first array that lies inside the array is the array's. -/
theorem xBlock_at (t : Fin cfg0.N) (r : Fin 64) (k : Fin 32768) (h : t.val * 32768 + k.val < 100000) :
    xBlock V c t (ix2 r k) = V c main_arg0 (ix2 r ⟨t.val * 32768 + k.val, h⟩) := by
  have hm := moved_x t (ix2 r k) (by rw [coords_scan]; exact h)
  unfold xBlock Pipeline.Window.fill
  rw [dif_pos hm, View.read_apply]
  show V c main_arg0 _ = _
  congr 1
  funext a
  apply Fin.ext
  refine (Pipeline.Window.rect_emb_val win0_0 t _ a).trans ?_
  match a with
  | ⟨0, _⟩ => rw [show (⟨0, _⟩ : Fin win0_0.shape.rank) = 0 from rfl, (index_x t).1]; exact block_start rfl _
  | ⟨1, _⟩ => rw [show (⟨1, _⟩ : Fin win0_0.shape.rank) = 1 from rfl, (index_x t).2]; rfl

/-- A lane of a block of the table that lies inside the table is the table's. -/
theorem uBlock_at (t : Fin cfg0.N) (r : Fin 64) (k : Fin 32768) (h : t.val * 32768 + k.val < 100000) :
    uBlock V c t (ix2 r k) = V c main_v181 (ix2 r ⟨t.val * 32768 + k.val, h⟩) := by
  have hm := moved_u t (ix2 r k) (by rw [coords_scan]; exact h)
  unfold uBlock Pipeline.Window.fill
  rw [dif_pos hm, View.read_apply]
  show V c main_v181 _ = _
  congr 1
  funext a
  apply Fin.ext
  refine (Pipeline.Window.rect_emb_val win0_1 t _ a).trans ?_
  match a with
  | ⟨0, _⟩ => rw [show (⟨0, _⟩ : Fin win0_1.shape.rank) = 0 from rfl, (index_u t).1]; exact block_start rfl _
  | ⟨1, _⟩ => rw [show (⟨1, _⟩ : Fin win0_1.shape.rank) = 1 from rfl, (index_u t).2]; rfl

/-- The index array ends at what the last point of the scan leaves. -/
theorem index_array : Pipeline.afterRegion (scanDat V c) (V c) main_v182 = runCol V c 3 := by
  refine (Pipeline.afterRegion_arr (scanDat V c) (V c) launch0.win.arr_inj 2).trans ?_
  refine (scanDat V c).arrAt_eq_of_covers 2 (runCol V c 3) (by decide +kernel) fun t ht y => ?_
  have h3 : t.val = 3 := by
    have := (flush0_2 t).mp ht
    have h4 : t.val < 4 := Nat.lt_of_lt_of_eq t.isLt N_0
    omega
  rw [scan_after2, h3]
  show runCol V c 3 _ = _
  congr 1
  funext a
  apply Fin.ext
  refine Eq.trans ?_ (Pipeline.Window.rect_emb_val win0_2 t _ a).symm
  exact (block_start (index_i t a) _).symm

/-- A lane of the one-hot result: 1 where the column is the row's index, 0 elsewhere. -/
def mark (r : BitVec 32) (k : ℕ) : F .f32 := FloatOps.sitofp .f32 ((IntOp.cmpi .eq (BitVec.ofNat 32 k) r).setWidth 32)

/-- The columns' block is the index array at every point. -/
theorem colBlock_eq (t : Fin cfg1.N) : colBlock V c t = V c main_v182 := by
  funext j
  unfold colBlock
  rw [View.read_apply]
  show V c main_v182 _ = _
  congr 1
  funext a
  apply Fin.ext
  refine (Pipeline.Window.rect_emb_val win1_0 t _ a).trans ?_
  exact block_start (index_c t a) _

/-- A lane of the one-hot block at a point. -/
theorem hot_lane (t : Fin cfg1.N) (v : IVec S64x1 32) (r : Fin 64) (k : Fin 32768) :
    (k1_pay1 (grid1.coords t) v (ix2 r k) : F .f32) = mark (v (ix2 r 0)) (t.val * 32768 + k.val) := by
  unfold k1_pay1 mark
  show FloatOps.sitofp .f32 ((IntOp.cmpi .eq
      (BitVec.ofNat 32 (0 * S64x32768.size 1 + k.val) + BitVec.ofNat 32 (grid1.coords t 0).val * 32768#32)
      (broadcastTo S64x32768 (shapeCast S64x1 v shapeCasts_S64x1_S64x1) broadcasts_S64x1_S64x32768 (ix2 r k))).setWidth 32) = _
  rw [shapeCast_self, Idealize.ShloMosaic.broadcastTo_apply v _ (ix2 r k) (ix2 r 0) (fun a => match a with | 0 => rfl | 1 => rfl), coords_hot]
  congr 4
  have h4 : t.val < 4 := Nat.lt_of_lt_of_eq t.isLt N_1
  have hk := k.isLt
  apply BitVec.eq_of_toNat_eq
  simp only [BitVec.toNat_add, BitVec.toNat_mul, BitVec.toNat_ofNat]
  omega

/-- The result array marks each row's index. -/
theorem result_array (r : Fin 64) (k : Fin 100000) :
    Pipeline.afterRegion (hotDat V c) (V c) main_v183 (ix2 r k) = (mark (V c main_v182 (ix2 r 0)) k.val : F .f32) := by
  refine (congrFun (Pipeline.afterRegion_arr (hotDat V c) (V c) launch1.win.arr_inj 1) (ix2 r k)).trans ?_
  refine (congrFun ((hotDat V c).arrAt_eq_of_covers 1 (fun i : S64x100000.Idx => (mark (V c main_v182 (ix2 (i 0) 0)) (i 1).val : F .f32))
    (by decide +kernel) fun t _ y => ?_) (ix2 r k)).trans rfl
  have e0 : (((cfg1.win 1).blk t).view.emb y 0).val = (y 0).val :=
    (Pipeline.Window.rect_emb_val win1_1 t y 0).trans (block_start (index_hot t).1 _)
  have e1 : (((cfg1.win 1).blk t).view.emb y 1).val = t.val * 32768 + (y 1).val :=
    (Pipeline.Window.rect_emb_val win1_1 t y 1).trans (by rw [(index_hot t).2]; rfl)
  rw [hot_after1, colBlock_eq, ← ix2_eta ((cfg1.win 1).xinj (cfg1.grid.coords t) y)]
  refine (hot_lane t (V c main_v182) _ _).trans ?_
  rw [e1]
  congr 2
  exact congrArg (fun q => ix2 q 0) (Fin.ext e0.symm)

end Cert.KernelIdeal.Hand

end
-- ==== Proof.ScanValue.lean ====
/- What the scan leaves: for each row, the first column where the noisy scores are largest. -/
module

public import proofs.«01_k».proof.Proof.ScanMax
public import proofs.«01_k».proof.Proof.ArrayValue

@[expose] public section

noncomputable section

namespace Cert.KernelIdeal.Hand

open Cert.KernelIdeal Cert.KernelIdeal.Gen Cert.FirstMax
open Idealize.ShloMosaic Idealize.ShloMosaic.TcCoe

variable (V : Dev nD → Valuation τ sig (Elt Ideal)) (d : Dev nD) (r : Fin 64)

/-- One row of noisy scores, −∞ from column 100000 on. -/
def rowScore (u x : S64x100000.Idx → EReal) (r : Fin 64) (c : ℕ) : EReal :=
  if h : c < 100000 then noisy (F := Ideal) (u (ix2 r ⟨c, h⟩)) (x (ix2 r ⟨c, h⟩)) else ⊥

/-- The scores of a block are the row's, from the block's first column on. -/
theorem blockScore_row (t : Fin cfg0.N) (j : ℕ) (hj : j < 32768) :
    blockScore (grid0.coords t) (uBlock V d t) (xBlock V d t) r j
      = rowScore (V d main_v181) (V d main_arg0) r (t.val * 32768 + j) := by
  unfold blockScore rowScore
  rw [dif_pos hj, scores_at]
  have e : (grid0.coords t 0).val * 32768 + (ix2 (n0 := 64) r (⟨j, hj⟩ : Fin 32768) 1).val = t.val * 32768 + j := by
    rw [coords_scan]; rfl
  rw [e]
  by_cases h : t.val * 32768 + j < 100000
  · rw [if_pos h, dif_pos h, uBlock_at V d t r ⟨j, hj⟩ h, xBlock_at V d t r ⟨j, hj⟩ h]
  · rw [if_neg h, dif_neg h]
    exact literal_bot

/-- The row's scores. -/
local notation "𝕊" => rowScore (V d main_v181) (V d main_arg0) r

/-- The running maximum and its column are those of the row's first n + 1 blocks. -/
def Holds (n : ℕ) : Prop := ∃ k, IsFirstMax 𝕊 (n * 32768 + 32768) k
  ∧ runMax V d n (ix2 r 0) = 𝕊 k ∧ runCol V d n (ix2 r 0) = BitVec.ofNat 32 k

/-- The block of the n-th point: its maximum and the maximum's column. -/
theorem block_facts (n : ℕ) (hn : n < 4) : ∃ q, IsFirstMax (fun j => 𝕊 (n * 32768 + j)) 32768 q
    ∧ k0_pay3 (grid0.coords (scanPt n)) (uBlock V d (scanPt n)) (xBlock V d (scanPt n)) (ix2 r 0) = 𝕊 (n * 32768 + q)
    ∧ k0_pay4 (grid0.coords (scanPt n)) (uBlock V d (scanPt n)) (xBlock V d (scanPt n)) (ix2 r 0) = BitVec.ofNat 32 (n * 32768 + q) := by
  have hv : (scanPt n).val = n := Nat.mod_eq_of_lt hn
  obtain ⟨q, hq⟩ := exists_isFirstMax (blockScore (grid0.coords (scanPt n)) (uBlock V d (scanPt n)) (xBlock V d (scanPt n)) r) 32767
  have hm := block_max hq
  have hc := block_col hq
  rw [blockScore_row V d r _ q hq.1, hv] at hm
  rw [coords_scan, hv] at hc
  exact ⟨q, hq.congr fun c h => by rw [blockScore_row V d r _ c h, hv], hm, hc⟩

/-- At the first point the block's maximum and column are kept as they are. -/
theorem start_eq (i : grid0.Coords) (u x : Vec Ideal S64x32768 .f32) (j : S64x1.Idx) :
    k0_pay5 i u x j = k0_pay3 i u x j ∧ k0_pay6 i u x j = k0_pay4 i u x j := by
  unfold k0_pay5 k0_pay6
  rw [shapeCast_self, shapeCast_self]
  exact ⟨rfl, rfl⟩

/-- At a later point the block's replaces the running one where the block's maximum is larger. -/
theorem next_eq (i : grid0.Coords) (u x : Vec Ideal S64x32768 .f32) (v : Vec Ideal S64x1 .f32) (k : Vec Ideal S64x1 .i32) (j : S64x1.Idx)
    {a b : EReal} (ha : k0_pay3 i u x j = a) (hb : v j = b) :
    k0_pay8 i u x v v j = (if b < a then a else b) ∧ k0_pay9 i u x v k j = if b < a then k0_pay4 i u x j else k j := by
  unfold k0_pay8 k0_pay9 k0_pay7
  rw [shapeCast_self, shapeCast_self]
  generalize k0_pay4 i u x = w
  generalize k0_pay3 i u x = p at ha
  subst ha hb
  exact ⟨select_gt _ _ _ _, select_gt _ _ _ _⟩

/-- After the first point the running maximum is the first block's. -/
theorem run_zero : Holds V d r 0 := by
  obtain ⟨q, hb, hm, hc⟩ := block_facts V d r 0 (by decide)
  simp only [Nat.zero_mul, Nat.zero_add] at hb hm hc
  refine ⟨q, by simpa only [Nat.zero_mul, Nat.zero_add] using hb, ?_, ?_⟩
  · unfold runMax
    exact (start_eq _ _ _ _).1.trans hm
  · unfold runCol
    exact (start_eq _ _ _ _).2.trans hc

/-- A point moves the running maximum into its block exactly when the block's maximum is larger. -/
theorem run_step (n : ℕ) (hn : n + 1 < 4) (h : Holds V d r n) : Holds V d r (n + 1) := by
  obtain ⟨q, hb, hm, hc⟩ := block_facts V d r (n + 1) hn
  obtain ⟨k, hk, hkm, hkc⟩ := h
  have e : (n + 1) * 32768 = n * 32768 + 32768 := Nat.succ_mul n 32768
  unfold Holds
  rw [e] at hb hm hc ⊢
  obtain ⟨e8, e9⟩ := next_eq (grid0.coords (scanPt (n + 1))) (uBlock V d (scanPt (n + 1))) (xBlock V d (scanPt (n + 1)))
    (runMax V d n) (runCol V d n) (ix2 r 0) hm hkm
  unfold runMax runCol
  rw [e8, e9, hc, hkc]
  by_cases h : 𝕊 k < 𝕊 (n * 32768 + 32768 + q)
  · rw [if_pos h, if_pos h]
    exact ⟨_, hk.move hb h, rfl, rfl⟩
  · rw [if_neg h, if_neg h]
    exact ⟨_, hk.stay hb (not_lt.mp h), rfl, rfl⟩

/-- The scan's index for a row that has a score above −∞ is the first column where the row's scores are largest. -/
theorem scan_index (hsome : ∃ c < 100000, ⊥ < 𝕊 c) :
    ∃ k, IsFirstMax 𝕊 100000 k ∧ Pipeline.afterRegion (scanDat V d) (V d) main_v182 (ix2 r 0) = BitVec.ofNat 32 k := by
  obtain ⟨k, hk, -, hc⟩ := run_step V d r 2 (by decide) (run_step V d r 1 (by decide) (run_step V d r 0 (by decide) (run_zero V d r)))
  rw [show (2 + 1) * 32768 + 32768 = 100000 + 31072 by norm_num] at hk
  refine ⟨k, hk.unpad (fun c hc => dif_neg (not_lt.mpr hc)) hsome, ?_⟩
  rw [index_array]; exact hc

end Cert.KernelIdeal.Hand

end
-- ==== Proof.ReferenceHash.lean ====
/- The reference's uniform table: the words of the counter hash, read off the line of operations. -/
module

public import proofs.«01_k».proof.Proof.HashLine
public import proofs.«01_k».proof.Proof.ReferenceLine
public import Idealize.ShloMosaic.Lib.Pipeline.Value

@[expose] public section

noncomputable section

namespace Cert.ReferenceIdeal.Hand

open Cert.ReferenceIdeal Cert.ReferenceIdeal.Gen
open Idealize.ShloMosaic Idealize.ShloMosaic.StableHlo
open Cert.HostLine

variable {F : FTy → Type} [FloatOps F]

/-- Buffer `k`, of an array of type `T`. -/
abbrev bf (T : BufTy) (k : Fin (sig.nBuf .hbm)) (ht : sig.ty .hbm k = T := by rfl) (hu : sig.isScoped .hbm k = false := by rfl) :
    TRef sig T := ⟨⟨.hbm, k, rfl⟩, ht, nofun, hu⟩
/-- Buffer `k`, of words. -/
abbrev w (k : Fin (sig.nBuf .hbm)) (ht : sig.ty .hbm k = ⟨S64x100000, .i32⟩ := by rfl) (hu : sig.isScoped .hbm k = false := by rfl) :
    TRef sig ⟨S64x100000, .i32⟩ := bf _ k ht hu
/-- Buffer `k`, of one word. -/
abbrev s (k : Fin (sig.nBuf .hbm)) (ht : sig.ty .hbm k = ⟨S_, .i32⟩ := by rfl) (hu : sig.isScoped .hbm k = false := by rfl) :
    TRef sig ⟨S_, .i32⟩ := bf _ k ht hu

variable (V : Valuation τ sig (Elt F)) (j : S64x100000.Idx)

local notation "afterR" => after (ops : List (HloOp τ sig (Elt F)))

theorem bcast : S_.BroadcastsInDim S64x100000 ![] := bcast_S_S64x100000

/-- The key: the words 0 and 42, side by side. -/
theorem key_pair : rd (afterR V) (bf ⟨S2, .i32⟩ 10)
    = concatenate S2 0 [⟨S1, fun _ => 0#32⟩, ⟨S1, fun _ => 42#32⟩] concatenates_S1_S1_S2_d0 := by
  obtain ⟨-, a1⟩ := rising.nullary V 0 (y := s 1) (v := constantI S_ 32 42#32) rfl
  obtain ⟨-, a2⟩ := rising.nullary V 1 (y := s 2) (v := constantI S_ 32 32#32) rfl
  obtain ⟨-, a3⟩ := rising.binary V 2 (a := s 1) (b := s 2) (y := s 3) (f := Host.shrui) rfl (by decide) (by decide)
  obtain ⟨-, a4⟩ := rising.unary V 3 (a := s 3) (y := s 4) (f := id) rfl (by decide)
  obtain ⟨-, a5⟩ := rising.unary V 4 (a := s 4) (y := bf ⟨S1, .i32⟩ 5) (f := broadcastInDim S1 ![] bcast_S_S1) rfl (by decide)
  obtain ⟨-, a6⟩ := rising.nullary V 5 (y := s 6) (v := constantI S_ 32 4294967295#32) rfl
  obtain ⟨-, a7⟩ := rising.binary V 6 (a := s 1) (b := s 6) (y := s 7) (f := andi) rfl (by decide) (by decide)
  obtain ⟨-, a8⟩ := rising.unary V 7 (a := s 7) (y := s 8) (f := id) rfl (by decide)
  obtain ⟨-, a9⟩ := rising.unary V 8 (a := s 8) (y := bf ⟨S1, .i32⟩ 9) (f := broadcastInDim S1 ![] bcast_S_S1) rfl (by decide)
  obtain ⟨-, b1⟩ := rising.binary V 9 (a := bf ⟨S1, .i32⟩ 5) (b := bf ⟨S1, .i32⟩ 9) (y := bf ⟨S2, .i32⟩ 10)
    (f := fun a b => concatenate S2 0 [⟨S1, a⟩, ⟨S1, b⟩] concatenates_S1_S1_S2_d0) rfl (by decide) (by decide)
  have e0 : broadcastInDim S1 ![] bcast_S_S1 (id (Host.shrui (constantI S_ 32 42#32) (constantI S_ 32 32#32))) = fun _ => 0#32 :=
    funext fun _ => show IntOp.shrui .host 42#32 32#32 = 0#32 by decide
  have e1 : broadcastInDim S1 ![] bcast_S_S1 (id (andi (constantI S_ 32 42#32) (constantI S_ 32 4294967295#32))) = fun _ => 42#32 :=
    funext fun _ => show IntOp.andi 42#32 4294967295#32 = 42#32 by decide
  rw [b1, a5, a9, a4, a8, a3, a7, a2, a6, a1, e0, e1]

/-- The first key word is 0. -/
theorem first : rd (afterR V) (s 17) = fun _ => 0#32 := by
  have a1 := (rising.unary V 15 (a := bf ⟨S2, .i32⟩ 10) (y := bf ⟨S1, .i32⟩ 16)
    (f := fun x => extractStridedSlice S1 ![0] x slices_S2_S1_0) rfl (by decide)).2
  obtain ⟨-, a2⟩ := rising.reshape V 16 (a := bf ⟨S1, .i32⟩ 16) (y := s 17) (he := rfl) (hn := shapeCasts_S1_S_) rfl (by decide)
  rw [a2, a1, key_pair]
  refine funext fun i => ?_
  show extractStridedSlice S1 ![0] (concatenate S2 0 [⟨S1, fun _ => 0#32⟩, ⟨S1, fun _ => 42#32⟩] concatenates_S1_S1_S2_d0) slices_S2_S1_0
    (Shape.reshapeEquiv shapeCasts_S1_S_ i) = 0#32
  unfold extractStridedSlice
  refine concatenate_pair_apply_left 0 (fun _ => 0#32) (fun _ => 42#32) concatenates_S1_S1_S2_d0 _ rfl
    (Shape.reshapeEquiv shapeCasts_S1_S_ i) fun b => ?_
  obtain rfl : b = 0 := Subsingleton.elim _ _
  exact (Nat.zero_add _).symm

/-- The second key word is 42. -/
theorem second : rd (afterR V) (s 19) = fun _ => 42#32 := by
  have a1 := (rising.unary V 17 (a := bf ⟨S2, .i32⟩ 10) (y := bf ⟨S1, .i32⟩ 18)
    (f := fun x => extractStridedSlice S1 ![1] x slices_S2_S1_1) rfl (by decide)).2
  obtain ⟨-, a2⟩ := rising.reshape V 18 (a := bf ⟨S1, .i32⟩ 18) (y := s 19) (he := rfl) (hn := shapeCasts_S1_S_) rfl (by decide)
  rw [a2, a1, key_pair]
  refine funext fun i => ?_
  show extractStridedSlice S1 ![1] (concatenate S2 0 [⟨S1, fun _ => 0#32⟩, ⟨S1, fun _ => 42#32⟩] concatenates_S1_S1_S2_d0) slices_S2_S1_1
    (Shape.reshapeEquiv shapeCasts_S1_S_ i) = 42#32
  unfold extractStridedSlice
  exact concatenate_pair_apply_right 0 (fun _ => 0#32) (fun _ => 42#32) concatenates_S1_S1_S2_d0 _ rfl rfl
    (Shape.reshapeEquiv shapeCasts_S1_S_ i) (fun b hb => absurd (Subsingleton.elim (α := Fin 1) _ _) hb) (Nat.add_comm _ _)

/-- The third key word is the exclusive or of the two and a constant. -/
theorem third : rd (afterR V) (s 36) = fun _ => 466689008#32 := by
  obtain ⟨-, a1⟩ := rising.binary V 33 (a := s 17) (b := s 19) (y := s 34) (f := xori) rfl (by decide) (by decide)
  obtain ⟨-, a2⟩ := rising.nullary V 34 (y := s 35) (v := constantI S_ 32 466688986#32) rfl
  obtain ⟨-, a3⟩ := rising.binary V 35 (a := s 34) (b := s 35) (y := s 36) (f := xori) rfl (by decide) (by decide)
  rw [a3, a2, a1, first, second]
  exact funext fun _ => show IntOp.xori (IntOp.xori 0#32 42#32) 466688986#32 = 466689008#32 by decide

/-- The counter of number (r, c): the two halves of 100000 r + c, the high one 0. -/
theorem counter : pair (afterR V) (w 33) (w 32) j = (0, BitVec.ofNat 32 ((j 0).val * 100000 + (j 1).val)) := by
  let d (k) (ht : sig.ty .hbm k = ⟨S64x100000, .i64⟩ := by rfl) (hu : sig.isScoped .hbm k = false := by rfl) := bf _ k ht hu
  let e (k) (ht : sig.ty .hbm k = ⟨S_, .i64⟩ := by rfl) (hu : sig.isScoped .hbm k = false := by rfl) := bf _ k ht hu
  obtain ⟨-, a1⟩ := rising.nullary V 19 (y := d 20) (v := iotaInDim S64x100000 64 0) rfl
  obtain ⟨-, a2⟩ := rising.nullary V 20 (y := d 21) (v := iotaInDim S64x100000 64 1) rfl
  obtain ⟨-, a3⟩ := rising.nullary V 21 (y := e 22) (v := constantI S_ 64 100000#64) rfl
  obtain ⟨-, a4⟩ := rising.unary V 22 (a := e 22) (y := d 23) (f := broadcastInDim S64x100000 ![] bcast) rfl (by decide)
  obtain ⟨-, a5⟩ := rising.binary V 23 (a := d 23) (b := d 20) (y := d 24) (f := muli) rfl (by decide) (by decide)
  obtain ⟨-, a6⟩ := rising.nullary V 24 (y := e 25) (v := constantI S_ 64 1#64) rfl
  obtain ⟨-, a7⟩ := rising.unary V 25 (a := e 25) (y := d 26) (f := broadcastInDim S64x100000 ![] bcast) rfl (by decide)
  obtain ⟨-, a8⟩ := rising.binary V 26 (a := d 26) (b := d 21) (y := d 27) (f := muli) rfl (by decide) (by decide)
  obtain ⟨-, a9⟩ := rising.binary V 27 (a := d 24) (b := d 27) (y := d 28) (f := addi) rfl (by decide) (by decide)
  have b1 := rising.withConst V 28 (hb := bcast) (d 28) (e 29) (d 30) (d 31) (f := Host.shrui) (v := constantI S_ 64 32#64) rfl (by decide)
  obtain ⟨-, b2⟩ := rising.unary V 31 (a := d 28) (y := w 32) (f := fun x => trunci 32 x natLt_32_64) rfl (by decide)
  obtain ⟨-, b3⟩ := rising.unary V 32 (a := d 31) (y := w 33) (f := fun x => trunci 32 x natLt_32_64) rfl (by decide)
  have h0 : (j 0).val < 64 := (j 0).isLt
  have h1 : (j 1).val < 100000 := (j 1).isLt
  unfold pair
  rw [b3, b2, b1, a9, a8, a7, a6, a5, a4, a3, a2, a1]
  have q : (100000#64 * BitVec.ofNat 64 (j 0).val + 1#64 * BitVec.ofNat 64 (j 1).val) = BitVec.ofNat 64 ((j 0).val * 100000 + (j 1).val) := by
    apply BitVec.eq_of_toNat_eq
    simp only [BitVec.toNat_add, BitVec.toNat_mul, BitVec.toNat_ofNat]
    omega
  show ((IntOp.shrui .host (100000#64 * BitVec.ofNat 64 (j 0).val + 1#64 * BitVec.ofNat 64 (j 1).val) 32#64).truncate 32,
    (100000#64 * BitVec.ofNat 64 (j 0).val + 1#64 * BitVec.ofNat 64 (j 1).val).truncate 32) = _
  rw [q]
  refine Prod.ext (BitVec.eq_of_toNat_eq ?_) (BitVec.eq_of_toNat_eq ?_)
  · show (IntOp.shrui .host (BitVec.ofNat 64 ((j 0).val * 100000 + (j 1).val)) 32#64).toNat % 2 ^ 32 = 0
    unfold IntOp.shrui
    rw [if_pos (by decide), BitVec.ushiftRight_eq', BitVec.toNat_ushiftRight, Nat.shiftRight_eq_div_pow, BitVec.toNat_ofNat]
    show ((j 0).val * 100000 + (j 1).val) % 2 ^ 64 / 2 ^ 32 % 2 ^ 32 = 0
    have hn : (j 0).val * 100000 + (j 1).val < 2 ^ 32 := by omega
    rw [Nat.mod_eq_of_lt (Nat.lt_trans hn (by decide)), Nat.div_eq_of_lt hn]
  · show ((BitVec.ofNat 64 ((j 0).val * 100000 + (j 1).val)).toNat) % 2 ^ 32 = _
    simp only [BitVec.toNat_ofNat]
    omega

theorem inject0 : pair (afterR V) (w 38) (w 40) j = inject 0 42 (pair (afterR V) (w 33) (w 32) j) := by
  have e1 := rising.withScalar V 36 (hb := bcast) (w 33) (s 17) (w 37) (w 38) (f := addi) rfl (by decide) (by decide)
  have e2 := rising.withScalar V 38 (hb := bcast) (w 32) (s 19) (w 39) (w 40) (f := addi) rfl (by decide) (by decide)
  unfold pair inject
  rw [e1, e2, first, second]
  rfl

theorem group1 : pair (afterR V) (w 68) (w 76) j = mixEven (pair (afterR V) (w 38) (w 40) j) := by
  rw [rising.round V 67 (hb := bcast) (w 59) (w 67) (w 68) (s 69) (w 70) (w 71) (s 72) (w 73) (w 74) (w 75) (w 76) rfl (by decide) (by decide) j,
    rising.round V 58 (hb := bcast) (w 50) (w 58) (w 59) (s 60) (w 61) (w 62) (s 63) (w 64) (w 65) (w 66) (w 67) rfl (by decide) (by decide) j,
    rising.round V 49 (hb := bcast) (w 41) (w 49) (w 50) (s 51) (w 52) (w 53) (s 54) (w 55) (w 56) (w 57) (w 58) rfl (by decide) (by decide) j,
    rising.round V 40 (hb := bcast) (w 38) (w 40) (w 41) (s 42) (w 43) (w 44) (s 45) (w 46) (w 47) (w 48) (w 49) rfl (by decide) (by decide) j]
  rfl

theorem inject1 : pair (afterR V) (w 78) (w 83) j = inject 42 466689009 (pair (afterR V) (w 68) (w 76) j) :=
  rising.injectKey V 76 (hb := bcast) (w 68) (w 76) (s 19) (s 36) (w 77) (w 78) (w 79) (w 80) (s 81) (w 82) (w 83) rfl
    (by decide) (by decide) (by decide) (by decide) (second V) (third V) j

theorem group2 : pair (afterR V) (w 111) (w 119) j = mixOdd (pair (afterR V) (w 78) (w 83) j) := by
  rw [rising.round V 110 (hb := bcast) (w 102) (w 110) (w 111) (s 112) (w 113) (w 114) (s 115) (w 116) (w 117) (w 118) (w 119) rfl (by decide) (by decide) j,
    rising.round V 101 (hb := bcast) (w 93) (w 101) (w 102) (s 103) (w 104) (w 105) (s 106) (w 107) (w 108) (w 109) (w 110) rfl (by decide) (by decide) j,
    rising.round V 92 (hb := bcast) (w 84) (w 92) (w 93) (s 94) (w 95) (w 96) (s 97) (w 98) (w 99) (w 100) (w 101) rfl (by decide) (by decide) j,
    rising.round V 83 (hb := bcast) (w 78) (w 83) (w 84) (s 85) (w 86) (w 87) (s 88) (w 89) (w 90) (w 91) (w 92) rfl (by decide) (by decide) j]
  rfl

theorem inject2 : pair (afterR V) (w 121) (w 126) j = inject 466689008 2 (pair (afterR V) (w 111) (w 119) j) :=
  rising.injectKey V 119 (hb := bcast) (w 111) (w 119) (s 36) (s 17) (w 120) (w 121) (w 122) (w 123) (s 124) (w 125) (w 126) rfl
    (by decide) (by decide) (by decide) (by decide) (third V) (first V) j

theorem group3 : pair (afterR V) (w 154) (w 162) j = mixEven (pair (afterR V) (w 121) (w 126) j) := by
  rw [rising.round V 153 (hb := bcast) (w 145) (w 153) (w 154) (s 155) (w 156) (w 157) (s 158) (w 159) (w 160) (w 161) (w 162) rfl (by decide) (by decide) j,
    rising.round V 144 (hb := bcast) (w 136) (w 144) (w 145) (s 146) (w 147) (w 148) (s 149) (w 150) (w 151) (w 152) (w 153) rfl (by decide) (by decide) j,
    rising.round V 135 (hb := bcast) (w 127) (w 135) (w 136) (s 137) (w 138) (w 139) (s 140) (w 141) (w 142) (w 143) (w 144) rfl (by decide) (by decide) j,
    rising.round V 126 (hb := bcast) (w 121) (w 126) (w 127) (s 128) (w 129) (w 130) (s 131) (w 132) (w 133) (w 134) (w 135) rfl (by decide) (by decide) j]
  rfl

theorem inject3 : pair (afterR V) (w 164) (w 169) j = inject 0 45 (pair (afterR V) (w 154) (w 162) j) :=
  rising.injectKey V 162 (hb := bcast) (w 154) (w 162) (s 17) (s 19) (w 163) (w 164) (w 165) (w 166) (s 167) (w 168) (w 169) rfl
    (by decide) (by decide) (by decide) (by decide) (first V) (second V) j

theorem group4 : pair (afterR V) (w 197) (w 205) j = mixOdd (pair (afterR V) (w 164) (w 169) j) := by
  rw [rising.round V 196 (hb := bcast) (w 188) (w 196) (w 197) (s 198) (w 199) (w 200) (s 201) (w 202) (w 203) (w 204) (w 205) rfl (by decide) (by decide) j,
    rising.round V 187 (hb := bcast) (w 179) (w 187) (w 188) (s 189) (w 190) (w 191) (s 192) (w 193) (w 194) (w 195) (w 196) rfl (by decide) (by decide) j,
    rising.round V 178 (hb := bcast) (w 170) (w 178) (w 179) (s 180) (w 181) (w 182) (s 183) (w 184) (w 185) (w 186) (w 187) rfl (by decide) (by decide) j,
    rising.round V 169 (hb := bcast) (w 164) (w 169) (w 170) (s 171) (w 172) (w 173) (s 174) (w 175) (w 176) (w 177) (w 178) rfl (by decide) (by decide) j]
  rfl

theorem inject4 : pair (afterR V) (w 207) (w 212) j = inject 42 466689012 (pair (afterR V) (w 197) (w 205) j) :=
  rising.injectKey V 205 (hb := bcast) (w 197) (w 205) (s 19) (s 36) (w 206) (w 207) (w 208) (w 209) (s 210) (w 211) (w 212) rfl
    (by decide) (by decide) (by decide) (by decide) (second V) (third V) j

theorem group5 : pair (afterR V) (w 240) (w 248) j = mixEven (pair (afterR V) (w 207) (w 212) j) := by
  rw [rising.round V 239 (hb := bcast) (w 231) (w 239) (w 240) (s 241) (w 242) (w 243) (s 244) (w 245) (w 246) (w 247) (w 248) rfl (by decide) (by decide) j,
    rising.round V 230 (hb := bcast) (w 222) (w 230) (w 231) (s 232) (w 233) (w 234) (s 235) (w 236) (w 237) (w 238) (w 239) rfl (by decide) (by decide) j,
    rising.round V 221 (hb := bcast) (w 213) (w 221) (w 222) (s 223) (w 224) (w 225) (s 226) (w 227) (w 228) (w 229) (w 230) rfl (by decide) (by decide) j,
    rising.round V 212 (hb := bcast) (w 207) (w 212) (w 213) (s 214) (w 215) (w 216) (s 217) (w 218) (w 219) (w 220) (w 221) rfl (by decide) (by decide) j]
  rfl

theorem inject5 : pair (afterR V) (w 250) (w 255) j = inject 466689008 5 (pair (afterR V) (w 240) (w 248) j) :=
  rising.injectKey V 248 (hb := bcast) (w 240) (w 248) (s 36) (s 17) (w 249) (w 250) (w 251) (w 252) (s 253) (w 254) (w 255) rfl
    (by decide) (by decide) (by decide) (by decide) (third V) (first V) j

/-- The word of number (r, c) is the hash of the pair 0, 100000 r + c. -/
theorem bits_at : rd (afterR V) (w 256) j = hashWord (0, BitVec.ofNat 32 ((j 0).val * 100000 + (j 1).val)) := by
  have e := (rising.binary V 255 (a := w 250) (b := w 255) (y := w 256) (f := xori) rfl (by decide) (by decide)).2
  have q := inject5 V j
  rw [group5, inject4, group4, inject3, group3, inject2, group2, inject1, group1, inject0, counter] at q
  rw [e]
  unfold hashWord
  rw [← q]
  rfl

/-- Buffer `k`, of floats. -/
abbrev fw (k : Fin (sig.nBuf .hbm)) (ht : sig.ty .hbm k = ⟨S64x100000, .f32⟩ := by rfl) (hu : sig.isScoped .hbm k = false := by rfl) :
    TRef sig ⟨S64x100000, .f32⟩ := bf _ k ht hu
/-- Buffer `k`, of one float. -/
abbrev fs (k : Fin (sig.nBuf .hbm)) (ht : sig.ty .hbm k = ⟨S_, .f32⟩ := by rfl) (hu : sig.isScoped .hbm k = false := by rfl) :
    TRef sig ⟨S_, .f32⟩ := bf _ k ht hu
/-- Buffer `k`, of one float with two axes. -/
abbrev fu (k : Fin (sig.nBuf .hbm)) (ht : sig.ty .hbm k = ⟨S1x1, .f32⟩ := by rfl) (hu : sig.isScoped .hbm k = false := by rfl) :
    TRef sig ⟨S1x1, .f32⟩ := bf _ k ht hu

theorem bcast1 : S1x1.BroadcastsInDim S64x100000 ![0, 1] := bcast_S1x1_S64x100000_0_1

/-- The table: number (r, c) is drawn from the hash of 0 and 100000 r + c. -/
theorem table_at : rd (afterR V) (fw 273) j = (draw (hashWord (0, BitVec.ofNat 32 ((j 0).val * 100000 + (j 1).val))) : F .f32) := by
  obtain ⟨-, o1⟩ := rising.nullary V 10 (y := fs 11) (v := constant S_ .f32 0x3F800000#32) rfl
  obtain ⟨-, o2⟩ := rising.nullary V 11 (y := fs 12) (v := constant S_ .f32 0x00800000#32) rfl
  obtain ⟨-, o3⟩ := rising.unary V 12 (a := fs 11) (y := fs 13) (f := id) rfl (by decide)
  obtain ⟨-, o4⟩ := rising.unary V 13 (a := fs 12) (y := fu 14) (f := broadcastInDim S1x1 ![] bcast_S_S1x1) rfl (by decide)
  obtain ⟨-, o5⟩ := rising.unary V 14 (a := fs 13) (y := fu 15) (f := broadcastInDim S1x1 ![] bcast_S_S1x1) rfl (by decide)
  have a1 := rising.withConst V 256 (hb := bcast) (w 256) (s 257) (w 258) (w 259) (f := Host.shrui) rfl (by decide)
  have a2 := rising.withConst V 259 (hb := bcast) (w 259) (s 260) (w 261) (w 262) (f := ori) rfl (by decide)
  obtain ⟨-, a3⟩ := rising.unary V 262 (a := w 262) (y := fw 263) (f := bitcastToFloat .f32) rfl (by decide)
  have a4 := rising.withConst V 263 (hb := bcast) (fw 263) (fs 264) (fw 265) (fw 266) (f := subf) rfl (by decide)
  obtain ⟨-, a5⟩ := rising.binary V 266 (a := fu 15) (b := fu 14) (y := fu 267) (f := subf) rfl (by decide) (by decide)
  have a6 := rising.withScalar V 267 (hb := bcast1) (fw 266) (fu 267) (fw 268) (fw 269) (f := mulf) rfl (by decide) (by decide)
  have a7 := rising.withScalar V 269 (hb := bcast1) (fw 269) (fu 14) (fw 270) (fw 271) (f := addf) rfl (by decide) (by decide)
  obtain ⟨-, a8⟩ := rising.unary V 271 (a := fu 14) (y := fw 272) (f := broadcastInDim S64x100000 ![0, 1] bcast1) rfl (by decide)
  obtain ⟨-, a9⟩ := rising.binary V 272 (a := fw 272) (b := fw 271) (y := fw 273) (f := maximumf) rfl (by decide) (by decide)
  rw [← bits_at V j, a9, a8, a7, a6, a5, a4, a3, a2, a1, o4, o5, o3, o2, o1]
  rfl

end Cert.ReferenceIdeal.Hand

end
-- ==== Proof.ReferenceTail.lean ====
/- What the reference computes from the table on: the noisy scores, their softmax, the row's first maximum and the result. -/
module

public import proofs.«01_k».proof.Proof.ReferenceHash
public import Idealize.ShloMosaic.PureOps.Ideal
public import Idealize.ShloMosaic.PureOps.Ideal.Laws
public import Idealize.ShloMosaic.Lib.Pointwise

@[expose] public section

noncomputable section

namespace Cert.ReferenceIdeal.Hand

open Cert.ReferenceIdeal Cert.ReferenceIdeal.Gen
open Idealize.ShloMosaic Idealize.ShloMosaic.StableHlo
open Cert.HostLine

/-- One value per row, as a table whose rows are constant. -/
theorem rows_at {α : Type} (v : S64.Idx → α) (r : Fin 64) (k : Fin 100000) :
    broadcastInDim S64x100000 ![0, 1] bcast_S64x1_S64x100000_0_1 (broadcastInDim S64x1 ![0] bcast_S64_S64x1_0 v) (ix2 r k) = v (ix1 r) := by
  rw [Idealize.ShloMosaic.broadcastInDim_apply _ _ _ (ix2 r k) (ix2 r 0) (fun a => match a with | 0 => rfl | 1 => rfl),
    Idealize.ShloMosaic.broadcastInDim_apply _ _ _ (ix2 r 0) (ix1 r) (fun a => match a with | 0 => rfl)]

variable {F : FTy → Type} [FloatOps F] (V : Valuation τ sig (Elt F)) (j : S64x100000.Idx)

local notation "afterR" => after (ops : List (HloOp τ sig (Elt F)))

/-- Buffer `k`, of one float per row. -/
abbrev fr (k : Fin (sig.nBuf .hbm)) (ht : sig.ty .hbm k = ⟨S64, .f32⟩ := by rfl) (hu : sig.isScoped .hbm k = false := by rfl) :
    TRef sig ⟨S64, .f32⟩ := bf _ k ht hu
/-- Buffer `k`, of one float per row, as a column. -/
abbrev fc (k : Fin (sig.nBuf .hbm)) (ht : sig.ty .hbm k = ⟨S64x1, .f32⟩ := by rfl) (hu : sig.isScoped .hbm k = false := by rfl) :
    TRef sig ⟨S64x1, .f32⟩ := bf _ k ht hu

/-- One noisy score: `(x + (-log (-log u))) / 0.1`. -/
def noisy (u x : F .f32) : F .f32 :=
  FloatOps.hostDivf (FloatOps.addf x (FloatOps.hostNegf (FloatOps.hostUnary .log (FloatOps.hostNegf (FloatOps.hostUnary .log u)))))
    (FloatOps.ofBits .f32 0x3DCCCCCD#32)

/-- The noisy scores. -/
theorem scores_eq : rd (afterR V) (fw 281) = fun j => noisy (rd (afterR V) (fw 273) j) (rd (afterR V) (fw 0) j) := by
  obtain ⟨-, a1⟩ := rising.unary V 273 (a := fw 273) (y := fw 274) (f := Host.log) rfl (by decide)
  obtain ⟨-, a2⟩ := rising.unary V 274 (a := fw 274) (y := fw 275) (f := Host.negf) rfl (by decide)
  obtain ⟨-, a3⟩ := rising.unary V 275 (a := fw 275) (y := fw 276) (f := Host.log) rfl (by decide)
  obtain ⟨-, a4⟩ := rising.unary V 276 (a := fw 276) (y := fw 277) (f := Host.negf) rfl (by decide)
  obtain ⟨-, a5⟩ := rising.binary V 277 (a := fw 0) (b := fw 277) (y := fw 278) (f := addf) rfl (by decide) (by decide)
  obtain ⟨-, a6⟩ := rising.nullary V 278 (y := fs 279) (v := constant S_ .f32 0x3DCCCCCD#32) rfl
  obtain ⟨-, a7⟩ := rising.unary V 279 (a := fs 279) (y := fw 280) (f := broadcastInDim S64x100000 ![] bcast) rfl (by decide)
  obtain ⟨-, a8⟩ := rising.binary V 280 (a := fw 278) (b := fw 280) (y := fw 281) (f := Host.divf) rfl (by decide) (by decide)
  rw [a8, a7, a6, a5, a4, a3, a2, a1]
  rfl

/-- What the reference takes off a row's scores: the row's maximum. -/
def top (s : FVec F S64x100000 .f32) : FVec F S64 .f32 :=
  maximumf (broadcastInDim S64 ![] bcast_S_S64 (constant S_ .f32 0xFF800000#32))
    (Host.reduce FloatOps.maximumf s (constant S_ .f32 0xFF800000#32) reducesTo_S64x100000_S64_d1 h_S_)

/-- The exponentials of the shifted scores. -/
def raised (s : FVec F S64x100000 .f32) : FVec F S64x100000 .f32 :=
  Host.exp (subf s (broadcastInDim S64x100000 ![0, 1] bcast_S64x1_S64x100000_0_1 (broadcastInDim S64x1 ![0] bcast_S64_S64x1_0 (top s))))

/-- The softmax of the scores. -/
def soft (s : FVec F S64x100000 .f32) : FVec F S64x100000 .f32 :=
  Host.divf (raised s) (broadcastInDim S64x100000 ![0, 1] bcast_S64x1_S64x100000_0_1 (broadcastInDim S64x1 ![0] bcast_S64_S64x1_0
    (Host.reduceAdd (raised s) (constant S_ .f32 0x00000000#32) reducesTo_S64x100000_S64_d1 h_S_)))

/-- The index of a row's first maximum. -/
def index (y : FVec F S64x100000 .f32) : IVec S64 32 := fun i =>
  (Host.argReduce reducer_argmax_f32_i32 y (iotaInDim S64x100000 32 1) (constant S_ .f32 0xFF800000#32) (constantI S_ 32 0#32)
    reducesTo_S64x100000_S64_d1 h_S_ i).2

/-- The line's maximum along rows, over typed buffers. -/
theorem max_op : (ops : List (HloOp τ sig (Elt F))).drop 282 = TRef.binary (fw 281) (fs 282) (fr 283)
    (fun x v => Host.reduce FloatOps.maximumf x v reducesTo_S64x100000_S64_d1 h_S_) :: ops.drop 283 := by
  have e : ∀ f : FVec F S64x100000 .f32 → FVec F S_ .f32 → FVec F S64 .f32,
      (StableHlo.binary main_v10 main_cst_2 main_v11 f : HloOp τ sig (Elt F)) = TRef.binary (fw 281) (fs 282) (fr 283) f := fun _ => rfl
  rw [← e]
  rfl

/-- The line's sum along rows, over typed buffers. -/
theorem sum_op : (ops : List (HloOp τ sig (Elt F))).drop 291 = TRef.binary (fw 290) (fs 291) (fr 292)
    (fun x v => Host.reduceAdd x v reducesTo_S64x100000_S64_d1 h_S_) :: ops.drop 292 := by
  have e : ∀ f : FVec F S64x100000 .f32 → FVec F S_ .f32 → FVec F S64 .f32,
      (StableHlo.binary main_v17 main_cst_4 main_v18 f : HloOp τ sig (Elt F)) = TRef.binary (fw 290) (fs 291) (fr 292) f := fun _ => rfl
  rw [← e]
  rfl

/-- The softmax buffer. -/
theorem soft_eq : rd (afterR V) (fw 295) = soft (rd (afterR V) (fw 281)) := by
  obtain ⟨-, a1⟩ := rising.nullary V 281 (y := fs 282) (v := constant S_ .f32 0xFF800000#32) rfl
  obtain ⟨-, a2⟩ := rising.binary V 282 (a := fw 281) (b := fs 282) (y := fr 283)
    (f := fun x v => Host.reduce FloatOps.maximumf x v reducesTo_S64x100000_S64_d1 h_S_) max_op (by decide) (by decide)
  obtain ⟨-, a3⟩ := rising.nullary V 283 (y := fs 284) (v := constant S_ .f32 0xFF800000#32) rfl
  obtain ⟨-, a4⟩ := rising.unary V 284 (a := fs 284) (y := fr 285) (f := broadcastInDim S64 ![] bcast_S_S64) rfl (by decide)
  obtain ⟨-, a5⟩ := rising.binary V 285 (a := fr 285) (b := fr 283) (y := fr 286) (f := maximumf) rfl (by decide) (by decide)
  obtain ⟨-, a6⟩ := rising.unary V 286 (a := fr 286) (y := fc 287) (f := broadcastInDim S64x1 ![0] bcast_S64_S64x1_0) rfl (by decide)
  obtain ⟨-, a7⟩ := rising.unary V 287 (a := fc 287) (y := fw 288) (f := broadcastInDim S64x100000 ![0, 1] bcast_S64x1_S64x100000_0_1) rfl (by decide)
  obtain ⟨-, a8⟩ := rising.binary V 288 (a := fw 281) (b := fw 288) (y := fw 289) (f := subf) rfl (by decide) (by decide)
  obtain ⟨-, a9⟩ := rising.unary V 289 (a := fw 289) (y := fw 290) (f := Host.exp) rfl (by decide)
  obtain ⟨-, b1⟩ := rising.nullary V 290 (y := fs 291) (v := constant S_ .f32 0x00000000#32) rfl
  obtain ⟨-, b2⟩ := rising.binary V 291 (a := fw 290) (b := fs 291) (y := fr 292)
    (f := fun x v => Host.reduceAdd x v reducesTo_S64x100000_S64_d1 h_S_) sum_op (by decide) (by decide)
  obtain ⟨-, b3⟩ := rising.unary V 292 (a := fr 292) (y := fc 293) (f := broadcastInDim S64x1 ![0] bcast_S64_S64x1_0) rfl (by decide)
  obtain ⟨-, b4⟩ := rising.unary V 293 (a := fc 293) (y := fw 294) (f := broadcastInDim S64x100000 ![0, 1] bcast_S64x1_S64x100000_0_1) rfl (by decide)
  obtain ⟨-, b5⟩ := rising.binary V 294 (a := fw 290) (b := fw 294) (y := fw 295) (f := Host.divf) rfl (by decide) (by decide)
  unfold soft raised top
  rw [b5, b4, b3, b2, b1, a9, a8, a7, a6, a5, a4, a3, a2, a1]

/-- The index buffer. -/
theorem index_eq : rd (afterR V) (bf ⟨S64, .i32⟩ 300) = index (rd (afterR V) (fw 295)) := by
  obtain ⟨-, a1⟩ := rising.nullary V 295 (y := w 296) (v := iotaInDim S64x100000 32 1) rfl
  obtain ⟨-, a2⟩ := rising.nullary V 296 (y := fs 297) (v := constant S_ .f32 0xFF800000#32) rfl
  obtain ⟨-, a3⟩ := rising.nullary V 297 (y := s 298) (v := constantI S_ 32 0#32) rfl
  have a4 := (rising.quaternary V 299 (a := fw 295) (b := w 296) (c := fs 297) (e := s 298) (y := bf ⟨S64, .i32⟩ 300)
    (f := fun x y u v j => (Host.argReduce reducer_argmax_f32_i32 x y u v reducesTo_S64x100000_S64_d1 h_S_ j).2) rfl
    (by decide) (by decide) (by decide) (by decide)).2
  unfold index
  rw [a4, a3, a2, a1]

/-- A lane of the one-hot table. -/
def mark (i : BitVec 32) (k : ℕ) : F .f32 := FloatOps.uitofp .f32 (IntOp.cmpi .eq i (BitVec.ofNat 32 k))

/-- The one-hot table. -/
theorem hot_at (r : Fin 64) (k : Fin 100000) :
    rd (afterR V) (fw 306) (ix2 r k) = (mark (rd (afterR V) (bf ⟨S64, .i32⟩ 300) (ix1 r)) k.val : F .f32) := by
  obtain ⟨-, a1⟩ := rising.unary V 300 (a := bf ⟨S64, .i32⟩ 300) (y := bf ⟨S64x1, .i32⟩ 301) (f := broadcastInDim S64x1 ![0] bcast_S64_S64x1_0) rfl (by decide)
  obtain ⟨-, a2⟩ := rising.nullary V 301 (y := bf ⟨S1x100000, .i32⟩ 302) (v := iotaInDim S1x100000 32 1) rfl
  obtain ⟨-, a3⟩ := rising.unary V 302 (a := bf ⟨S64x1, .i32⟩ 301) (y := w 303) (f := broadcastInDim S64x100000 ![0, 1] bcast_S64x1_S64x100000_0_1) rfl (by decide)
  obtain ⟨-, a4⟩ := rising.unary V 303 (a := bf ⟨S1x100000, .i32⟩ 302) (y := w 304) (f := broadcastInDim S64x100000 ![0, 1] bcast_S1x100000_S64x100000_0_1) rfl (by decide)
  obtain ⟨-, a5⟩ := rising.binary V 304 (a := w 303) (b := w 304) (y := bf ⟨S64x100000, .i1⟩ 305) (f := cmpi .eq) rfl (by decide) (by decide)
  obtain ⟨-, a6⟩ := rising.unary V 305 (a := bf ⟨S64x100000, .i1⟩ 305) (y := fw 306) (f := uitofp .f32) rfl (by decide)
  rw [a6, a5, a4, a3, a2, a1]
  generalize rd (afterR V) (bf ⟨S64, .i32⟩ 300) = v
  show FloatOps.uitofp .f32 (IntOp.cmpi .eq (broadcastInDim S64x100000 ![0, 1] bcast_S64x1_S64x100000_0_1 (broadcastInDim S64x1 ![0] bcast_S64_S64x1_0 v) (ix2 r k))
    (broadcastInDim S64x100000 ![0, 1] bcast_S1x100000_S64x100000_0_1 (iotaInDim S1x100000 32 1) (ix2 r k))) = _
  rw [rows_at, Idealize.ShloMosaic.broadcastInDim_apply _ _ _ (ix2 r k) (ix2 0 k) (fun a => match a with | 0 => rfl | 1 => rfl)]
  rfl

/-- The result: the one-hot lane less the softmax lane, plus the softmax lane. -/
theorem result_at (r : Fin 64) (k : Fin 100000) : rd (afterR V) (fw 308) (ix2 r k)
    = FloatOps.addf (FloatOps.subf (mark (index (rd (afterR V) (fw 295)) (ix1 r)) k.val) (rd (afterR V) (fw 295) (ix2 r k)))
        (rd (afterR V) (fw 295) (ix2 r k)) := by
  obtain ⟨-, a1⟩ := rising.binary V 306 (a := fw 306) (b := fw 295) (y := fw 307) (f := subf) rfl (by decide) (by decide)
  obtain ⟨-, a2⟩ := rising.binary V 307 (a := fw 307) (b := fw 295) (y := fw 308) (f := addf) rfl (by decide) (by decide)
  rw [← index_eq, ← hot_at, a2, a1]
  rfl

end Cert.ReferenceIdeal.Hand

end
-- ==== Proof.Noise.lean ====
/- A drawn number lies strictly between 0 and 1, so its noise is finite, and the two programs' noisy scores agree. -/
module

public import proofs.«01_k».proof.Proof.HashLine
public import proofs.«01_k».proof.Proof.ScanBlock
public import proofs.«01_k».proof.Proof.ReferenceTail
public import Idealize.ShloMosaic.PureOps.Ideal
public import Idealize.ShloMosaic.PureOps.Ideal.Laws

@[expose] public section

noncomputable section

namespace Cert.Noise

open Idealize.ShloMosaic Cert.HostLine

/-- The literal 1. -/
theorem one_eq : Ideal.ofBits .f32 0x3F800000#32 = ((1 : ℝ) : EReal) := by
  simp [Ideal.ofBits, Ideal.ieee]
  rw [← EReal.coe_mul]
  norm_num

/-- The smallest normal number. -/
theorem tiny_eq : ∃ q : ℝ, 0 < q ∧ q < 1 ∧ Ideal.ofBits .f32 0x00800000#32 = (q : EReal) := by
  refine ⟨8388608 * (2 ^ 149)⁻¹, by positivity, ?_, by simp [Ideal.ofBits, Ideal.ieee]⟩
  norm_num

/-- The temperature. -/
theorem tenth_eq : ∃ q : ℝ, 0 < q ∧ Ideal.ofBits .f32 0x3DCCCCCD#32 = (q : EReal) := by
  refine ⟨(2 ^ 23 + 5033165 : ℕ) * 2 ^ (-27 : ℤ), by positivity, by simp [Ideal.ofBits, Ideal.ieee]⟩

/-- A word with the exponent of 1 and any significand is a number in [1, 2). -/
theorem significand_eq (b : BitVec 32) : ∃ q : ℝ, 1 ≤ q ∧ q < 2
    ∧ Ideal.ofBits .f32 (IntOp.ori (IntOp.shrui .host b 9) 0x3F800000#32) = (q : EReal) := by
  have e : IntOp.ori (IntOp.shrui .host b 9) 0x3F800000#32 = (b >>> 9) ||| 0x3F800000#32 := rfl
  rw [e]
  have h1 : ((b >>> 9) ||| 0x3F800000#32).extractLsb' 31 1 = 0#1 := by
    ext i hi
    have : i = 0 := by omega
    subst this
    simp
  have h2 : ((b >>> 9) ||| 0x3F800000#32).extractLsb' 23 8 = 127#8 := by
    ext i hi
    simp only [BitVec.getElem_extractLsb', BitVec.getLsbD_or, BitVec.getLsbD_ushiftRight]
    rw [BitVec.getLsbD_of_ge b _ (by omega), Bool.false_or]
    revert i
    decide
  have hf := (((b >>> 9) ||| 0x3F800000#32).extractLsb' 0 23).isLt
  show ∃ q : ℝ, 1 ≤ q ∧ q < 2 ∧ Ideal.ieee 8 23 _ = (q : EReal)
  unfold Ideal.ieee
  generalize ((b >>> 9) ||| 0x3F800000#32).extractLsb' 0 23 = f at hf
  simp only [Nat.reduceAdd, h1, h2]
  refine ⟨1 * (2 ^ 23 + f.toNat : ℕ) * 2 ^ (-23 : ℤ), ?_, ?_, ?_⟩
  · have : (0 : ℝ) ≤ f.toNat := Nat.cast_nonneg _
    push_cast
    norm_num
    linarith
  · have : (f.toNat : ℝ) < 2 ^ 23 := by exact_mod_cast hf
    push_cast
    norm_num at this
    norm_num
    have : (f.toNat : ℝ) < 8388608 := by exact_mod_cast this
    linarith
  · rw [if_neg (by decide), if_neg (by decide), if_neg (by decide)]
    norm_num

/-- A drawn number lies strictly between 0 and 1. -/
theorem draw_unit (b : BitVec 32) : ∃ u : ℝ, 0 < u ∧ u < 1 ∧ (draw (F := Ideal) b : EReal) = (u : EReal) := by
  obtain ⟨t, t0, t1, ht⟩ := tiny_eq
  obtain ⟨q, q1, q2, hq⟩ := significand_eq b
  have e : (draw (F := Ideal) b : EReal) = max (Ideal.ofBits .f32 0x00800000#32)
      ((Ideal.ofBits .f32 (IntOp.ori (IntOp.shrui .host b 9) 0x3F800000#32) - Ideal.ofBits .f32 0x3F800000#32)
        * (Ideal.ofBits .f32 0x3F800000#32 - Ideal.ofBits .f32 0x00800000#32) + Ideal.ofBits .f32 0x00800000#32 : EReal) := rfl
  refine ⟨max t ((q - 1) * (1 - t) + t), lt_max_of_lt_left t0, max_lt t1 (by nlinarith), ?_⟩
  rw [e, ht, hq, one_eq]
  norm_cast

/-- The number both programs draw for a row and a column. -/
def drawn (r c : ℕ) : Ideal .f32 := draw (hashWord (0, BitVec.ofNat 32 (r * 100000 + c)))

/-- The noise of a number strictly between 0 and 1 is finite. -/
theorem noise_finite {u : ℝ} (h0 : 0 < u) (h1 : u < 1) : ∃ g : ℝ, -Ideal.log (-Ideal.log (u : EReal)) = (g : EReal) := by
  have hl : Ideal.log (u : EReal) = (Real.log u : EReal) := if_neg (not_le.mpr h0)
  have hn : ¬ -Real.log u ≤ 0 := by have := Real.log_neg h0 h1; linarith
  have hl' : Ideal.log ((-Real.log u : ℝ) : EReal) = (Real.log (-Real.log u) : EReal) := if_neg hn
  exact ⟨-Real.log (-Real.log u), by rw [hl, ← EReal.coe_neg, hl', ← EReal.coe_neg]⟩

/-- The kernel's noisy score is the reference's. -/
theorem noisy_eq (u x : Ideal .f32) : KernelIdeal.Hand.noisy u x = ReferenceIdeal.Hand.noisy u x := by
  have e : KernelIdeal.Hand.noisy u x = Ideal.div (x + (Ideal.ofBits .f32 0x00000000#32
    - Ideal.log (Ideal.ofBits .f32 0x00000000#32 - Ideal.log u) : EReal) : EReal) (Ideal.ofBits .f32 0x3DCCCCCD#32) := rfl
  rw [e, Ideal.ofBits_zero_f32, zero_sub, zero_sub]
  rfl

/-- A noisy score over a drawn number is (x + g) / q for a finite g and a positive q. -/
theorem noisy_drawn (b : BitVec 32) : ∃ g q : ℝ, 0 < q ∧ ∀ x : Ideal .f32,
    (ReferenceIdeal.Hand.noisy (draw b) x : EReal) = ((x : EReal) + g) * (q : EReal) := by
  obtain ⟨u, h0, h1, hu⟩ := draw_unit b
  obtain ⟨g, hg⟩ := noise_finite h0 h1
  obtain ⟨q, hq0, hq⟩ := tenth_eq
  refine ⟨g, q⁻¹, inv_pos.mpr hq0, fun x => ?_⟩
  have e : (ReferenceIdeal.Hand.noisy (draw b) x : EReal)
    = Ideal.div ((x : EReal) + -Ideal.log (-Ideal.log (draw (F := Ideal) b))) (Ideal.ofBits .f32 0x3DCCCCCD#32) := rfl
  rw [e, hu, hg, hq, EReal.coe_inv]
  exact if_neg (by exact_mod_cast hq0.ne')

/-- A noisy score over a drawn number is below +∞ where x is. -/
theorem noisy_lt_top (b : BitVec 32) (x : Ideal .f32) (hx : (x : EReal) < ⊤) : (ReferenceIdeal.Hand.noisy (draw b) x : EReal) < ⊤ := by
  obtain ⟨g, q, hq, h⟩ := noisy_drawn b
  rw [h]
  induction (x : EReal) using EReal.rec with
  | bot => rw [EReal.bot_add, EReal.bot_mul_coe_of_pos hq]; exact bot_lt_top
  | coe r => rw [← EReal.coe_add, ← EReal.coe_mul]; exact EReal.coe_lt_top _
  | top => exact absurd hx (lt_irrefl _)

/-- A noisy score over a drawn number is above −∞ where x is. -/
theorem bot_lt_noisy (b : BitVec 32) (x : Ideal .f32) (hx : ⊥ < (x : EReal)) : ⊥ < (ReferenceIdeal.Hand.noisy (draw b) x : EReal) := by
  obtain ⟨g, q, hq, h⟩ := noisy_drawn b
  rw [h]
  induction (x : EReal) using EReal.rec with
  | bot => exact absurd hx (lt_irrefl _)
  | coe r => rw [← EReal.coe_add, ← EReal.coe_mul]; exact EReal.bot_lt_coe _
  | top => rw [EReal.top_add_coe, EReal.top_mul_coe_of_pos hq]; exact bot_lt_top

end Cert.Noise

end
-- ==== Proof.KernelValue.lean ====
/- What the kernel computes in a row: 1 at the first maximum of the row's noisy scores, 0 elsewhere. -/
module

public import proofs.«01_k».proof.Proof.KernelRun
public import proofs.«01_k».proof.Proof.KernelHash
public import proofs.«01_k».proof.Proof.ScanValue
public import proofs.«01_k».proof.Proof.Noise

@[expose] public section

noncomputable section

namespace Cert.KernelIdeal.Hand

open Cert.KernelIdeal Cert.KernelIdeal.Gen Cert.FirstMax Cert.Noise
open Idealize.ShloMosaic Idealize.ShloMosaic.TcCoe Idealize.SL.Sem

variable (m : (ℓ : Loc nD τ sig) → Buf (Elt Ideal) ℓ) (c : Dev nD)

/-- The argument's array. -/
abbrev argument : FVec Ideal S64x100000 .f32 := m ((c.tc : Thread nD τ).loc main_arg0)

/-- The score of a column is the noisy score of x there. -/
theorem score_at (r : Fin 64) {k : ℕ} (h : k < 100000) : rowScore (V1 m c main_v181) (V1 m c main_arg0) r k
    = (ReferenceIdeal.Hand.noisy (drawn r.val k) (argument m c (ix2 r ⟨k, h⟩)) : Ideal .f32) := by
  have e : V1 m c main_arg0 = argument m c := V1_of m c main_arg0 (by decide)
  have t : V1 m c main_v181 (ix2 r ⟨k, h⟩) = drawn r.val k := table_at (V0 m c) (ix2 r ⟨k, h⟩)
  unfold rowScore
  rw [dif_pos h, e, t, noisy_eq]

/-- A row with a number above −∞ is marked at the first maximum of its scores. -/
theorem kernel_value (r : Fin 64) (hsome : ∃ k : Fin 100000, ⊥ < (argument m c (ix2 r k) : EReal)) :
    ∃ q, IsFirstMax (rowScore (V1 m c main_v181) (V1 m c main_arg0) r) 100000 q
      ∧ ∀ k : Fin 100000, afterHot m c main_v183 (ix2 r k) = (mark (BitVec.ofNat 32 q) k.val : Ideal .f32) := by
  obtain ⟨k, hk⟩ := hsome
  obtain ⟨q, hq, e⟩ := scan_index (V1 m) c r ⟨k.val, k.isLt, by rw [score_at m c r k.isLt]; exact bot_lt_noisy _ _ hk⟩
  refine ⟨q, hq, fun k => ?_⟩
  have h := result_array (afterScan m) c r k
  have e' : afterScan m c main_v182 (ix2 r 0) = BitVec.ofNat 32 q := e
  rw [e'] at h
  exact h

end Cert.KernelIdeal.Hand

end
-- ==== Proof.ArgMax.lean ====
/- The reference's index of a row: the first column where the row is largest. -/
module

public import proofs.«01_k».proof.Proof.ReferenceTail
public import proofs.«01_k».proof.Proof.FirstMax

@[expose] public section

noncomputable section

namespace Cert.ReferenceIdeal.Hand

open Cert.ReferenceIdeal Cert.ReferenceIdeal.Gen Cert.FirstMax
open Idealize.ShloMosaic Idealize.ShloMosaic.StableHlo

/-- A value with its index. -/
abbrev Entry : Type := Ideal .f32 × BitVec 32

/-- The first entry has the larger value, or the same value and an index no larger. -/
def Beats (p q : Entry) : Prop := (q.1 : EReal) < p.1 ∨ (q.1 : EReal) = p.1 ∧ p.2.toInt ≤ q.2.toInt

theorem Beats.refl (p : Entry) : Beats p p := .inr ⟨rfl, le_rfl⟩

theorem Beats.trans {p q s : Entry} (h : Beats p q) (h' : Beats q s) : Beats p s := by
  rcases h with h | ⟨e, h⟩ <;> rcases h' with h' | ⟨e', h'⟩
  · exact .inl (h'.trans h)
  · exact .inl (e' ▸ h)
  · exact .inl (e ▸ h')
  · exact .inr ⟨e'.trans e, h.trans h'⟩

/-- The reducer keeps one of its two entries, and that one beats the other. -/
theorem reducer_keeps (a b : Entry) : (reducer_argmax_f32_i32 (F := Ideal) a b = a ∧ Beats a b)
    ∨ (reducer_argmax_f32_i32 (F := Ideal) a b = b ∧ Beats b a) := by
  obtain ⟨x, i⟩ := a
  obtain ⟨y, k⟩ := b
  have e : reducer_argmax_f32_i32 (F := Ideal) (x, i) (y, k)
      = (Scalar.select (IntOp.ori (BitVec.ofBool (decide ((y : EReal) < x))) (BitVec.ofBool (decide ((x : EReal) ≠ x)))) x y,
        Scalar.select (IntOp.ori (IntOp.ori (BitVec.ofBool (decide ((y : EReal) < x))) (BitVec.ofBool (decide ((x : EReal) ≠ x))))
          (IntOp.andi (BitVec.ofBool (decide ((x : EReal) = y))) (BitVec.ofBool (decide (i.toInt < k.toInt))))) i k) := rfl
  rw [e, show decide ((x : EReal) ≠ x) = false from decide_eq_false (not_not.mpr rfl)]
  by_cases h : (y : EReal) < x
  · rw [decide_eq_true h]
    cases decide ((x : EReal) = y) <;> cases decide (i.toInt < k.toInt) <;> exact .inl ⟨rfl, .inl h⟩
  · rw [decide_eq_false h]
    by_cases e : (x : EReal) = y
    · subst e
      by_cases hik : i.toInt < k.toInt
      · rw [decide_eq_true hik, decide_eq_true rfl]
        exact .inl ⟨rfl, .inr ⟨rfl, hik.le⟩⟩
      · rw [decide_eq_false hik, decide_eq_true rfl]
        exact .inr ⟨rfl, .inr ⟨rfl, not_lt.mp hik⟩⟩
    · rw [decide_eq_false e]
      cases decide (i.toInt < k.toInt) <;> exact .inr ⟨rfl, .inl (lt_of_le_of_ne (not_lt.mp h) e)⟩

/-- Folding the reducer over a list ends at the start or at an entry of the list, and what it ends at beats all of them. -/
theorem fold_beats : ∀ (l : List Entry) (a : Entry), (l.foldl (reducer_argmax_f32_i32 (F := Ideal)) a = a
      ∨ l.foldl (reducer_argmax_f32_i32 (F := Ideal)) a ∈ l)
    ∧ Beats (l.foldl (reducer_argmax_f32_i32 (F := Ideal)) a) a ∧ ∀ q ∈ l, Beats (l.foldl (reducer_argmax_f32_i32 (F := Ideal)) a) q
  | [], a => ⟨.inl rfl, .refl a, nofun⟩
  | b :: l, a => by
    rw [List.foldl_cons]
    obtain ⟨h1, h2, h3⟩ := fold_beats l (reducer_argmax_f32_i32 (F := Ideal) a b)
    rcases reducer_keeps a b with ⟨e, hb⟩ | ⟨e, hb⟩
    · rw [e] at h1 h2 h3 ⊢
      refine ⟨h1.imp id fun h => List.mem_cons_of_mem _ h, h2, fun q hq => ?_⟩
      rcases List.mem_cons.mp hq with rfl | hq
      · exact h2.trans hb
      · exact h3 q hq
    · rw [e] at h1 h2 h3 ⊢
      refine ⟨.inr (h1.elim (fun h => by rw [h]; exact List.mem_cons_self) fun h => List.mem_cons_of_mem _ h), h2.trans hb, fun q hq => ?_⟩
      rcases List.mem_cons.mp hq with rfl | hq
      · exact h2
      · exact h3 q hq

/-- Folded over the entries of a row of values above −∞, from −∞, the reducer ends at the row's first maximum. -/
theorem fold_first {S : ℕ → EReal} {N k : ℕ} (hN : N < 2 ^ 31) (l : List Entry) (a : Entry) (ha : (a.1 : EReal) = ⊥)
    (hl : ∀ p, p ∈ l ↔ ∃ c, c < N ∧ p = (S c, BitVec.ofNat 32 c)) (hpos : ∀ c, c < N → ⊥ < S c) (hk : IsFirstMax S N k) :
    (l.foldl (reducer_argmax_f32_i32 (F := Ideal)) a).2 = BitVec.ofNat 32 k := by
  obtain ⟨h1, -, h3⟩ := fold_beats l a
  have hb := h3 _ ((hl _).mpr ⟨k, hk.1, rfl⟩)
  have small : ∀ n : ℕ, n < N → (BitVec.ofNat 32 n).toInt = n := fun n hn => by
    rw [BitVec.toInt_eq_toNat_of_lt] <;> rw [BitVec.toNat_ofNat] <;> omega
  rcases h1 with h | h
  · rw [h] at hb
    rcases hb with hb | ⟨hb, -⟩
    · rw [ha] at hb
      exact absurd hb not_lt_bot
    · rw [ha] at hb
      exact absurd hb (hpos k hk.1).ne'
  · obtain ⟨c, hcN, hc⟩ := (hl _).mp h
    rw [hc] at hb ⊢
    rcases hb with hb | ⟨hb, hle⟩
    · exact absurd (hk.2.1 c hcN) (not_le.mpr hb)
    · have hle' : c ≤ k := by
        have : (BitVec.ofNat 32 c).toInt ≤ (BitVec.ofNat 32 k).toInt := hle
        rw [small _ hcN, small _ hk.1] at this
        exact_mod_cast this
      rcases Nat.lt_or_eq_of_le hle' with hlt | rfl
      · exact absurd hb (hk.2.2 c hlt).ne'
      · rfl

/-- One row of a table, −∞ from column 100000 on. -/
def rowOf (y : S64x100000.Idx → EReal) (r : Fin 64) (c : ℕ) : EReal := if h : c < 100000 then y (ix2 r ⟨c, h⟩) else ⊥

theorem rowOf_of (y : S64x100000.Idx → EReal) (r : Fin 64) {c : ℕ} (h : c < 100000) : rowOf y r c = y (ix2 r ⟨c, h⟩) := dif_pos h

/-- The literal −∞. -/
theorem literal_bot : (FloatOps.ofBits .f32 0xFF800000#32 : Ideal .f32) = (⊥ : EReal) := by
  show Ideal.ofBits .f32 0xFF800000#32 = ⊥
  simp [Ideal.ofBits, Ideal.ieee]

/-- The entries of a row. -/
theorem mem_row (y : FVec Ideal S64x100000 .f32) (z : IVec S64x100000 32) (r : Fin 64) (p : Entry) :
    p ∈ Host.argReduceFiber y z reducesTo_S64x100000_S64_d1 (ix1 r)
      ↔ ∃ c : Fin 100000, p = (y (ix2 r c), z (ix2 r c)) := by
  unfold Host.argReduceFiber
  rw [List.mem_map]
  constructor
  · rintro ⟨n, hn, rfl⟩
    obtain ⟨c, hc⟩ := (Shape.ReducesTo.fiber_r2_a1 reducesTo_S64x100000_S64_d1 (ix1 r) (S64x100000.rowMajor.symm n)).mp
      (of_decide_eq_true (List.mem_filter.mp hn).2)
    exact ⟨c, by rw [← hc]; rfl⟩
  · rintro ⟨c, rfl⟩
    refine ⟨S64x100000.rowMajor (ix2 r c), List.mem_filter.mpr ⟨List.mem_finRange _, decide_eq_true ?_⟩, ?_⟩
    · rw [Equiv.symm_apply_apply]
      exact (Shape.ReducesTo.fiber_r2_a1 _ _ _).mpr ⟨c, rfl⟩
    · rw [Equiv.symm_apply_apply]

/-- The index the reducer ends at, from −∞, is the first maximum of the values it runs over. -/
theorem reduced_first {s t u : Shape} {axes : List (Fin s.rank)} (y : FVec Ideal s .f32) (z : IVec s 32) (ix : FVec Ideal u .f32)
    (iy : IVec u 32) (h : s.ReducesTo axes t) (hu : 0 < u.numel) (j : t.Idx) (hix : (ix (Shape.Idx.first hu) : EReal) = ⊥)
    {S : ℕ → EReal} {N k : ℕ} (hN : N < 2 ^ 31) (hl : ∀ p, p ∈ Host.argReduceFiber y z h j ↔ ∃ c, c < N ∧ p = (S c, BitVec.ofNat 32 c))
    (hpos : ∀ c, c < N → ⊥ < S c) (hk : IsFirstMax S N k) :
    (Host.argReduce (reducer_argmax_f32_i32 (F := Ideal)) y z ix iy h hu j).2 = BitVec.ofNat 32 k := by
  rw [Ideal.argReduce_eq_reduce2, Host.reduce2_eq_foldl_fiber]
  exact fold_first hN _ _ hix hl hpos hk

/-- The entries of a row, by column. -/
theorem mem_row_of (y : FVec Ideal S64x100000 .f32) (r : Fin 64) (p : Entry) :
    p ∈ Host.argReduceFiber y (iotaInDim S64x100000 32 1) reducesTo_S64x100000_S64_d1 (ix1 r)
      ↔ ∃ c, c < 100000 ∧ p = (rowOf y r c, BitVec.ofNat 32 c) := by
  rw [mem_row]
  constructor
  · rintro ⟨c, rfl⟩
    exact ⟨c.val, c.isLt, by rw [rowOf_of]; rfl⟩
  · rintro ⟨c, h, rfl⟩
    exact ⟨⟨c, h⟩, by rw [rowOf_of y r h]; rfl⟩

/-- What the index is. -/
theorem index_is (y : FVec Ideal S64x100000 .f32) : index (F := Ideal) y = fun i =>
    (Host.argReduce (reducer_argmax_f32_i32 (F := Ideal)) y (iotaInDim S64x100000 32 1) (constant S_ .f32 0xFF800000#32)
      (constantI S_ 32 0#32) reducesTo_S64x100000_S64_d1 h_S_ i).2 := by
  unfold index
  rfl

/-- The index of a row whose values are all above −∞ is the first column where the row is largest. -/
theorem index_first (y : FVec Ideal S64x100000 .f32) (r : Fin 64) (hpos : ∀ c, c < 100000 → ⊥ < rowOf y r c) {k : ℕ}
    (hk : IsFirstMax (rowOf y r) 100000 k) : index (F := Ideal) y (ix1 r) = BitVec.ofNat 32 k :=
  (congrFun (index_is y) (ix1 r)).trans <| reduced_first y (iotaInDim S64x100000 32 1) (constant S_ .f32 0xFF800000#32) (constantI S_ 32 0#32)
    reducesTo_S64x100000_S64_d1 h_S_ (ix1 r) literal_bot (by norm_num) (mem_row_of y r) hpos hk

end Cert.ReferenceIdeal.Hand

end
-- ==== Proof.SoftRow.lean ====
/- The softmax of one row: finite, not negative, and larger where the score is larger. -/
module

public import Idealize.ShloMosaic.PureOps.Ideal
public import Idealize.ShloMosaic.PureOps.Ideal.Laws

@[expose] public section

noncomputable section

namespace Cert.SoftRow

open Idealize.ShloMosaic

/-- The exponential of a score below +∞ less a finite number, as a real number: 0 for −∞. -/
def power (a : ℝ) : EReal → ℝ
  | ⊥ => 0
  | ⊤ => 0
  | (r : ℝ) => Real.exp (r - a)

theorem exp_eq (a : ℝ) (t : EReal) (h : t < ⊤) : Ideal.exp (t - (a : EReal)) = (power a t : EReal) := by
  induction t using EReal.rec with
  | bot => rw [EReal.bot_sub]; rfl
  | coe r => rw [← EReal.coe_sub]; rfl
  | top => exact absurd h (lt_irrefl _)

theorem power_nonneg (a : ℝ) (t : EReal) : 0 ≤ power a t := by
  induction t using EReal.rec with
  | bot => exact le_refl (0 : ℝ)
  | coe r => exact (Real.exp_pos (r - a)).le
  | top => exact le_refl (0 : ℝ)

/-- The exponential rises with the score. -/
theorem power_lt (a : ℝ) {t v : EReal} (h : t < v) (hv : v < ⊤) : power a t < power a v := by
  induction v using EReal.rec with
  | bot => exact absurd h not_lt_bot
  | top => exact absurd hv (lt_irrefl _)
  | coe q =>
    induction t using EReal.rec with
    | bot => exact Real.exp_pos (q - a)
    | coe r => exact Real.exp_lt_exp.mpr (by have := EReal.coe_lt_coe_iff.mp h; linarith)
    | top => exact absurd (h.trans hv) (lt_irrefl _)

variable {n : ℕ} (f : Fin n → EReal)

/-- The maximum of a row of scores below +∞, one of them above −∞, is finite. -/
theorem max_finite (hlt : ∀ c, f c < ⊤) (hsome : ∃ c, ⊥ < f c) : ∃ a : ℝ, Finset.univ.fold max ⊥ f = (a : EReal) := by
  have h1 : Finset.univ.fold max ⊥ f < ⊤ := Finset.fold_max_lt ⊤ |>.mpr ⟨bot_lt_top, fun c _ => hlt c⟩
  have h2 : ⊥ < Finset.univ.fold max ⊥ f := Finset.lt_fold_max ⊥ |>.mpr (.inr (hsome.imp fun c h => ⟨Finset.mem_univ c, h⟩))
  exact ⟨_, (EReal.coe_toReal h1.ne h2.ne').symm⟩

/-- A sum of real numbers, as an extended real. -/
theorem coe_sum (g : Fin n → ℝ) : ((∑ d, g d : ℝ) : EReal) = ∑ d, (g d : EReal) :=
  map_sum (⟨⟨fun r : ℝ => (r : EReal), EReal.coe_zero⟩, EReal.coe_add⟩ : ℝ →+ EReal) g Finset.univ

/-- The softmax of such a row is finite, not negative, and rises with the score. -/
theorem soft_row (hlt : ∀ c, f c < ⊤) (hsome : ∃ c, ⊥ < f c) {M : EReal} (hM : M = Finset.univ.fold max ⊥ f) :
    ∃ y : Fin n → ℝ, (∀ c, 0 ≤ y c) ∧ (∀ c d, f c < f d → y c < y d)
      ∧ ∀ c, Ideal.div (Ideal.exp (f c - M)) (0 + ∑ d, Ideal.exp (f d - M)) = (y c : EReal) := by
  obtain ⟨a, ha⟩ := max_finite f hlt hsome
  obtain ⟨b, hb⟩ := hsome
  have hS : 0 < ∑ d, power a (f d) := Finset.sum_pos' (fun d _ => power_nonneg a (f d))
    ⟨b, Finset.mem_univ b, lt_of_le_of_lt (power_nonneg a ⊥) (power_lt a hb (hlt b))⟩
  refine ⟨fun c => power a (f c) * (∑ d, power a (f d))⁻¹, fun c => mul_nonneg (power_nonneg a _) (inv_pos.mpr hS).le,
    fun c d h => mul_lt_mul_of_pos_right (power_lt a h (hlt d)) (inv_pos.mpr hS), fun c => ?_⟩
  have e : (∑ d, Ideal.exp (f d - M)) = ((∑ d, power a (f d) : ℝ) : EReal) := by
    rw [coe_sum, Finset.sum_congr rfl fun d _ => by rw [hM, ha, exp_eq a _ (hlt d)]]
  rw [e, zero_add, hM, ha, exp_eq a _ (hlt c), EReal.coe_mul, EReal.coe_inv]
  exact if_neg (by exact_mod_cast hS.ne')

end Cert.SoftRow

end
-- ==== Proof.SoftValue.lean ====
/- The reference's softmax on a row whose scores are below +∞ and not all −∞: finite, with the scores' first maximum. -/
module

public import proofs.«01_k».proof.Proof.ArgMax
public import proofs.«01_k».proof.Proof.SoftRow

@[expose] public section

noncomputable section

namespace Cert.ReferenceIdeal.Hand

open Cert.ReferenceIdeal Cert.ReferenceIdeal.Gen Cert.FirstMax Cert.SoftRow
open Idealize.ShloMosaic Idealize.ShloMosaic.StableHlo

/-- A row's maximum, from −∞. -/
theorem row_max {m n : ℕ} {u : Shape} (h : (⟨2, ![m, n]⟩ : Shape).ReducesTo [1] ⟨1, ![m]⟩) (hu : 0 < u.numel)
    (v : FVec Ideal ⟨2, ![m, n]⟩ .f32) (r : Fin m) :
    ((Host.reduce FloatOps.maximumf v (constant u .f32 0xFF800000#32) h hu : FVec Ideal ⟨1, ![m]⟩ .f32) (ix1 r) : EReal)
      = Finset.univ.fold max ⊥ fun k : Fin n => (v (ix2 r k) : EReal) := by
  simp only [pointwise]
  show Finset.univ.fold max (FloatOps.ofBits .f32 0xFF800000#32 : Ideal .f32) _ = _
  rw [literal_bot]

/-- A row's sum, from 0. -/
theorem row_sum {m n : ℕ} {u : Shape} (h : (⟨2, ![m, n]⟩ : Shape).ReducesTo [1] ⟨1, ![m]⟩) (hu : 0 < u.numel)
    (v : FVec Ideal ⟨2, ![m, n]⟩ .f32) (r : Fin m) :
    ((Host.reduceAdd v (constant u .f32 0x00000000#32) h hu : FVec Ideal ⟨1, ![m]⟩ .f32) (ix1 r) : EReal) = 0 + ∑ k : Fin n, (v (ix2 r k) : EReal) := by
  simp only [pointwise, Ideal.hostReduceAdd_def]

/-- A lane of a quotient. -/
theorem div_lane {s : Shape} (a b : FVec Ideal s .f32) (i : s.Idx) : (Host.divf a b i : EReal) = Ideal.div (a i) (b i) := rfl

/-- A lane of a maximum with −∞. -/
theorem max_lane {s : Shape} (a b : FVec Ideal s .f32) (i : s.Idx) (h : (a i : EReal) = ⊥) : (maximumf a b i : EReal) = b i := by
  have e : (maximumf a b i : EReal) = max (a i : EReal) (b i) := rfl
  rw [e, h]
  exact max_eq_right bot_le

/-- A value less a finite number, plus it again. -/
theorem sub_add_finite (a : EReal) (y : ℝ) : a - y + y = a := by
  induction a using EReal.rec with
  | bot => rw [EReal.bot_sub, EReal.bot_add]
  | coe r => rw [← EReal.coe_sub, ← EReal.coe_add, sub_add_cancel]
  | top => rw [EReal.top_sub_coe, EReal.top_add_coe]

variable (s : FVec Ideal S64x100000 .f32) (r : Fin 64)

/-- A row's maximum. -/
theorem top_at : (top s (ix1 r) : EReal) = Finset.univ.fold max ⊥ fun k : Fin 100000 => (s (ix2 r k) : EReal) := by
  unfold top
  exact (max_lane _ _ _ literal_bot).trans (row_max _ _ _ _)

/-- A lane of the exponentials. -/
theorem raised_at (k : Fin 100000) : (raised s (ix2 r k) : EReal) = Ideal.exp ((s (ix2 r k) : EReal) - top s (ix1 r)) := by
  unfold raised
  generalize top s = v
  show Ideal.exp ((s (ix2 r k) : EReal)
    - broadcastInDim S64x100000 ![0, 1] bcast_S64x1_S64x100000_0_1 (broadcastInDim S64x1 ![0] bcast_S64_S64x1_0 v) (ix2 r k)) = _
  rw [rows_at]

/-- A lane of the softmax. -/
theorem soft_at (k : Fin 100000) : (soft s (ix2 r k) : EReal) = Ideal.div (Ideal.exp ((s (ix2 r k) : EReal) - top s (ix1 r)))
    (0 + ∑ d : Fin 100000, Ideal.exp ((s (ix2 r d) : EReal) - top s (ix1 r))) := by
  unfold soft
  rw [div_lane, rows_at, row_sum, raised_at]
  simp only [raised_at]

variable {s r} {k : ℕ} (hlt : ∀ c, (s (ix2 r c) : EReal) < ⊤) (hsome : ∃ c, ⊥ < (s (ix2 r c) : EReal))

include hlt hsome

/-- The softmax of such a row is finite, not negative, and largest where the scores are. -/
theorem soft_first (hk : IsFirstMax (rowOf s r) 100000 k) :
    (∀ c, ∃ y : ℝ, (soft s (ix2 r c) : EReal) = (y : EReal)) ∧ (∀ c, c < 100000 → ⊥ < rowOf (soft s) r c)
      ∧ IsFirstMax (rowOf (soft s) r) 100000 k := by
  obtain ⟨y, h0, hy, e⟩ := soft_row (fun c : Fin 100000 => (s (ix2 r c) : EReal)) hlt hsome (top_at s r)
  have e' : ∀ c, (soft s (ix2 r c) : EReal) = (y c : EReal) := fun c => (soft_at s r c).trans (e c)
  refine ⟨fun c => ⟨y c, e' c⟩, fun c hc => ?_, hk.rise (fun c hc h => ?_) fun c hc h => ?_⟩
  · rw [rowOf_of _ _ hc, e']
    exact EReal.bot_lt_coe _
  · rw [rowOf_of _ _ hc, rowOf_of _ _ hk.1] at h ⊢
    rw [soft_at, soft_at, h]
  · rw [rowOf_of _ _ hc, rowOf_of _ _ hk.1] at h ⊢
    rw [e', e']
    exact EReal.coe_lt_coe_iff.mpr (hy _ _ h)

/-- The index of such a row's softmax is the scores' first maximum. -/
theorem index_soft (hk : IsFirstMax (rowOf s r) 100000 k) : index (F := Ideal) (soft s) (ix1 r) = BitVec.ofNat 32 k :=
  index_first (soft s) r (soft_first hlt hsome hk).2.1 (soft_first hlt hsome hk).2.2

/-- A lane of the result of such a row. -/
theorem hard_lane (hk : IsFirstMax (rowOf s r) 100000 k) (c : Fin 100000) :
    (FloatOps.addf (FloatOps.subf (mark (index (soft s) (ix1 r)) c.val) (soft s (ix2 r c))) (soft s (ix2 r c)) : Ideal .f32)
      = mark (BitVec.ofNat 32 k) c.val := by
  rw [index_soft hlt hsome hk]
  obtain ⟨y, hy⟩ := (soft_first hlt hsome hk).1 c
  generalize soft s (ix2 r c) = v at hy
  subst hy
  exact sub_add_finite _ y

end Cert.ReferenceIdeal.Hand

end
-- ==== Proof.ReferenceValue.lean ====
/- What the reference computes in a row: 1 at the first maximum of the row's noisy scores, 0 elsewhere. -/
module

public import proofs.«01_k».proof.Proof.SoftValue
public import proofs.«01_k».proof.Proof.Noise

@[expose] public section

noncomputable section

namespace Cert.ReferenceIdeal.Hand

open Cert.ReferenceIdeal Cert.ReferenceIdeal.Gen Cert.FirstMax Cert.Noise Cert.HostLine
open Idealize.ShloMosaic Idealize.ShloMosaic.StableHlo Idealize.SL.Sem

variable (m : (ℓ : Loc nD τ sig) → Buf (Elt Ideal) ℓ) (d : Dev nD)

/-- The argument's array. -/
abbrev argument : FVec Ideal S64x100000 .f32 := m ((d.tc : Thread nD τ).loc main_arg0)

/-- The noisy scores. -/
def scores : FVec Ideal S64x100000 .f32 := fun j => noisy (drawn (j 0).val (j 1).val) (argument m d j)

theorem scores_is : rd (final m d) (fw 281) = scores m d := by
  have e := scores_eq (launchContents m d)
  refine e.trans (funext fun j => ?_)
  rw [table_at]
  have h : rd (after (ops : List (HloOp τ sig (Elt Ideal))) (launchContents m d)) (fw 0) = argument m d := final_arg m d
  rw [h]
  rfl

theorem soft_is : rd (final m d) (fw 295) = soft (scores m d) :=
  (soft_eq (launchContents m d)).trans (congrArg soft (scores_is m d))

/-- A row of numbers below +∞, one of them above −∞, is marked at the first maximum of its scores. -/
theorem reference_value (r : Fin 64) (hlt : ∀ k, (argument m d (ix2 r k) : EReal) < ⊤) (hsome : ∃ k, ⊥ < (argument m d (ix2 r k) : EReal))
    {q : ℕ} (hq : IsFirstMax (rowOf (scores m d) r) 100000 q) (k : Fin 100000) :
    final m d (Proc.devRef .tc main_v25) (ix2 r k) = (mark (BitVec.ofNat 32 q) k.val : Ideal .f32) := by
  have e := result_at (launchContents m d) r k
  rw [show rd (after (ops : List (HloOp τ sig (Elt Ideal))) (launchContents m d)) (fw 295) = soft (scores m d) from soft_is m d] at e
  exact e.trans (hard_lane (fun c => noisy_lt_top _ _ (hlt c)) (hsome.imp fun c h => bot_lt_noisy _ _ h) hq k)

end Cert.ReferenceIdeal.Hand

end
-- ==== Proof.Marks.lean ====
/- The two programs mark a column the same way. -/
module

public import proofs.«01_k».proof.Proof.ArrayValue
public import proofs.«01_k».proof.Proof.ReferenceTail
public import Idealize.ShloMosaic.PureOps.Ideal

@[expose] public section

noncomputable section

namespace Cert.Marks

open Idealize.ShloMosaic

/-- The kernel's mark and the reference's are both 1 at the index and 0 elsewhere. -/
theorem mark_eq (r : BitVec 32) (k : ℕ) : (KernelIdeal.Hand.mark r k : Ideal .f32) = ReferenceIdeal.Hand.mark r k := by
  have e1 : (KernelIdeal.Hand.mark r k : Ideal .f32)
    = ((((BitVec.ofBool (decide (BitVec.ofNat 32 k = r))).setWidth 32).toInt : ℝ) : EReal) := rfl
  have e2 : (ReferenceIdeal.Hand.mark r k : Ideal .f32) = (((BitVec.ofBool (decide (r = BitVec.ofNat 32 k))).toNat : ℝ) : EReal) := rfl
  rw [e1, e2]
  by_cases h : BitVec.ofNat 32 k = r
  · rw [decide_eq_true h, decide_eq_true h.symm, show ((BitVec.ofBool true).setWidth 32).toInt = 1 by decide, show (BitVec.ofBool true).toNat = 1 by decide]
    norm_num
  · rw [decide_eq_false h, decide_eq_false fun h' => h h'.symm]
    norm_num

end Cert.Marks

end
-- ==== Proof.Defined.lean ====
/- What the precondition says: every number of x is below +∞, and every row has a number above −∞. -/
module

public import proofs.«01_k».proof.Proof.Gen.Pre_softmax_defined
public import Idealize.ShloMosaic.PureOps.Ideal
public import Idealize.ShloMosaic.Lib.ReduceAll
public import Idealize.ShloMosaic.Lib.Pointwise

@[expose] public section

noncomputable section

namespace Cert.Defined

open Idealize.ShloMosaic Cert.Pre_softmax_defined

/-- A fold by `or` that came out 1 started at 1 or met a 1. -/
theorem foldl_ori_some {ι : Type} (f : ι → BitVec 1) : ∀ (l : List ι) (a : BitVec 1),
    l.foldl (fun r n => IntOp.ori r (f n)) a = 1#1 → a = 1#1 ∨ ∃ n ∈ l, f n = 1#1
  | [], _, h => .inl h
  | b :: l, a, h => by
    rcases foldl_ori_some f l _ h with h' | ⟨n, hn, h'⟩
    · have hor : ∀ p q : BitVec 1, IntOp.ori p q = 1#1 → p = 1#1 ∨ q = 1#1 := by decide
      exact (hor _ _ h').imp id fun h'' => ⟨b, List.mem_cons_self, h''⟩
    · exact .inr ⟨n, List.mem_cons_of_mem _ hn, h'⟩

/-- A reduction by `or` from 0 that is 1 had a 1 among the values it ran over. -/
theorem reduce_ori_some {s t u : Shape} {axes : List (Fin s.rank)} (x : s.Idx → BitVec 1) (init : u.Idx → BitVec 1)
    (h : s.ReducesTo axes t) (hu : 0 < u.numel) (j : t.Idx) (hi : init (Shape.Idx.first hu) = 0#1)
    (e : Host.reduce IntOp.ori x init h hu j = 1#1) : ∃ i, h.drop i = j ∧ x i = 1#1 := by
  rw [Host.reduce_eq_foldl] at e
  rcases foldl_ori_some x _ _ e with h' | ⟨i, hm, h'⟩
  · rw [hi] at h'
    exact absurd h' (by decide)
  · exact ⟨i, of_decide_eq_true (List.mem_filter.mp hm).2, h'⟩

/-- The literal +∞. -/
theorem literal_top : (FloatOps.ofBits .f32 0x7F800000#32 : Ideal .f32) = (⊤ : EReal) := by
  show Ideal.ofBits .f32 0x7F800000#32 = ⊤
  simp [Ideal.ofBits, Ideal.ieee]

/-- The literal −∞. -/
theorem literal_bot : (FloatOps.ofBits .f32 0xFF800000#32 : Ideal .f32) = (⊥ : EReal) := by
  show Ideal.ofBits .f32 0xFF800000#32 = ⊥
  simp [Ideal.ofBits, Ideal.ieee]

theorem below_of {a b : Ideal .f32} (h : FloatOps.cmpf .olt a b = 1#1) : (a : EReal) < b := by
  have e : (FloatOps.cmpf .olt a b : BitVec 1) = BitVec.ofBool (decide ((a : EReal) < b)) := rfl
  rw [e] at h
  by_contra hn
  rw [decide_eq_false hn] at h
  exact absurd h (by decide)

theorem above_of {a b : Ideal .f32} (h : FloatOps.cmpf .ogt a b = 1#1) : (b : EReal) < a := by
  have e : (FloatOps.cmpf .ogt a b : BitVec 1) = BitVec.ofBool (decide ((b : EReal) < a)) := rfl
  rw [e] at h
  by_contra hn
  rw [decide_eq_false hn] at h
  exact absurd h (by decide)

variable [Facts] {x : FVec Ideal S64x100000 .f32} (h : fn (F := Ideal) x = fun _ => 1#1)

include h

theorem both : Host.reduce IntOp.andi (cmpf .olt x (broadcastInDim S64x100000 ![] Facts.bcast_S_S64x100000 (constant S_ .f32 0x7F800000#32)))
      (constantI S_ 1 1#1) Facts.reducesTo_S64x100000_S_d0_1 Facts.h_S_ ix0 = 1#1
    ∧ Host.reduce IntOp.andi (Host.reduce IntOp.ori (cmpf .ogt x (broadcastInDim S64x100000 ![] Facts.bcast_S_S64x100000 (constant S_ .f32 0xFF800000#32)))
      (constantI S_ 1 0#1) Facts.reducesTo_S64x100000_S64_d1 Facts.h_S_) (constantI S_ 1 1#1) Facts.reducesTo_S64_S_d0 Facts.h_S_ ix0 = 1#1 := by
  have e := congrFun h ix0
  unfold fn at e
  exact IntOp.andi_eq_one.1 e

/-- Every number is below +∞. -/
theorem below (i : S64x100000.Idx) : (x i : EReal) < ⊤ := by
  have e := below_of (Host.reduce_andi_all _ _ _ _ _ (both h).1 i)
  exact literal_top ▸ e

/-- Every row has a number above −∞. -/
theorem above (r : Fin 64) : ∃ c : Fin 100000, ⊥ < (x (ix2 r c) : EReal) := by
  obtain ⟨i, hi, e⟩ := reduce_ori_some _ _ _ _ _ rfl (Host.reduce_andi_all _ _ _ _ _ (both h).2 (ix1 r))
  obtain ⟨c, rfl⟩ := (Shape.ReducesTo.fiber_r2_a1 _ _ _).mp hi
  exact ⟨c, literal_bot ▸ above_of e⟩

end Cert.Defined

end
-- ==== Proof.Same.lean ====
/- The kernel's result is the reference's, where the precondition holds. -/
module

public import proofs.«01_k».proof.Proof.KernelValue
public import proofs.«01_k».proof.Proof.ReferenceValue
public import proofs.«01_k».proof.Proof.Marks
public import proofs.«01_k».proof.Proof.Defined

@[expose] public section

noncomputable section

namespace Cert.Same

open Idealize.ShloMosaic Idealize.ShloMosaic.TcCoe Idealize.SL.Sem Cert.FirstMax

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- The two programs' scores of a row agree. -/
theorem scores_eq (ha : ReferenceIdeal.Hand.argument m' c = KernelIdeal.Hand.argument m c) (r : Fin 64) (k : ℕ) (hk : k < 100000) :
    KernelIdeal.Hand.rowScore (KernelIdeal.Gen.V1 m c KernelIdeal.main_v181) (KernelIdeal.Gen.V1 m c KernelIdeal.main_arg0) r k
      = ReferenceIdeal.Hand.rowOf (ReferenceIdeal.Hand.scores m' c) r k := by
  rw [KernelIdeal.Hand.score_at m c r hk, ReferenceIdeal.Hand.rowOf_of _ _ hk]
  unfold ReferenceIdeal.Hand.scores
  rw [ha]
  rfl

/-- The two programs' results agree where every x is below +∞ and every row has an x above −∞. -/
theorem result_eq (ha : ReferenceIdeal.Hand.argument m' c = KernelIdeal.Hand.argument m c)
    (hp : Pre_softmax_defined.fn (F := Ideal) (KernelIdeal.Hand.argument m c) = fun _ => 1#1) :
    ReferenceIdeal.Hand.final m' c (Proc.devRef .tc ReferenceIdeal.main_v25) = KernelIdeal.Hand.afterHot m c KernelIdeal.main_v183 := by
  funext i
  obtain ⟨r, k, rfl⟩ : ∃ (r : Fin 64) (k : Fin 100000), i = ix2 r k := ⟨i 0, i 1, by
    funext a
    match a with
    | 0 => rfl
    | 1 => rfl⟩
  have hsome := Defined.above hp r
  obtain ⟨q, hq, e⟩ := KernelIdeal.Hand.kernel_value m c r hsome
  rw [e k, Marks.mark_eq]
  exact ReferenceIdeal.Hand.reference_value m' c r (fun k => by rw [ha]; exact Defined.below hp (ix2 r k)) (by rw [ha]; exact hsome)
    (hq.congr fun k hk => scores_eq m m' c ha r k hk) k

end Cert.Same

end
-- ==== Proof.lean ====
module

public import proofs.«01_k».proof.Defs
public import proofs.«01_k».proof.Proof.Gen.Pre_softmax_defined
public import proofs.«01_k».proof.Proof.KernelRun
public import proofs.«01_k».proof.Proof.Float.KernelRun
public import proofs.«01_k».proof.Proof.ReferenceLine
public import proofs.«01_k».proof.Proof.Same
public import Idealize.ShloMosaic.Adequacy
public import Idealize.ShloMosaic.Init

@[expose] public section

noncomputable section

namespace Cert.Proof

open Idealize.ShloMosaic Idealize.SL.Sem

/-- Where the precondition holds, the two programs end with equal results and leave the argument alone. -/
theorem equal_results : Cert.algebraic_KernelIdeal_ReferenceIdeal_pre_softmax_defined := fun m g m' g' hp ha =>
  ⟨fun c => Cert.KernelIdeal.Hand.afterHot m c (Proc.devRef .tc Cert.KernelIdeal.main_v183),
    (θ_run Cert.KernelIdeal.defs _ _).mono (fun _ h c => ⟨(h.1 c).2, (h.1 c).1⟩) (Cert.KernelIdeal.Hand.run_result m g),
    (θ_run Cert.ReferenceIdeal.defs _ _).mono (fun _ h c => ⟨(h c Cert.ReferenceIdeal.main_v25).trans (Cert.Same.result_eq m m' c (ha c) (hp c)),
      (h c Cert.ReferenceIdeal.main_arg0).trans (Cert.ReferenceIdeal.Hand.final_arg m' c)⟩) (Cert.ReferenceIdeal.Hand.run m' g')⟩

/-- The certificate's claim. -/
theorem claim : Cert.Claim := ⟨Cert.Kernel.Gen.facts, Cert.KernelIdeal.Gen.facts, Cert.ReferenceIdeal.Gen.facts, Cert.Pre_softmax_defined.Gen.facts,
  fun m g _ => Cert.Kernel.Hand.run_frame m g,
  fun m g _ => Cert.KernelIdeal.Hand.run_frame m g,
  fun m g _ => Cert.KernelIdeal.Hand.run_frame m g,
  fun m g _ => Cert.ReferenceIdeal.Hand.run_frame m g,
  fun m g _ => Cert.ReferenceIdeal.Hand.run_frame m g,
  trivial, equal_results⟩

end Cert.Proof

end
